-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "keep" .f32 0x3F733333#32 ((19 / 20 : ℝ) : EReal)
  ∧ IdealRules.named_const.Statement Cert.KernelIdeal.κ "floor" .f32 0x3B23D70A#32 ((1 / 400 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S_ : Shape := ⟨0, ![]⟩
abbrev S16384 : Shape := ⟨1, ![16384]⟩
abbrev S128x20 : Shape := ⟨2, ![128, 20]⟩
abbrev S20 : Shape := ⟨1, ![20]⟩
abbrev S20x2 : Shape := ⟨2, ![20, 2]⟩
abbrev S2 : Shape := ⟨1, ![2]⟩
abbrev S20x1 : Shape := ⟨2, ![20, 1]⟩
abbrev S1 : Shape := ⟨1, ![1]⟩
abbrev S1x1 : Shape := ⟨2, ![1, 1]⟩
abbrev S1x20 : Shape := ⟨2, ![1, 20]⟩
abbrev S2x1 : Shape := ⟨2, ![2, 1]⟩
abbrev S2x1x8192 : Shape := ⟨3, ![2, 1, 8192]⟩
abbrev S16384x1 : Shape := ⟨2, ![16384, 1]⟩
abbrev S8192x128 : Shape := ⟨2, ![8192, 128]⟩
abbrev S1x1x8192 : Shape := ⟨3, ![1, 1, 8192]⟩
abbrev S8192x20 : Shape := ⟨2, ![8192, 20]⟩
abbrev S2x8192 : Shape := ⟨2, ![2, 8192]⟩
abbrev S8192 : Shape := ⟨1, ![8192]⟩
abbrev S1x8192 : Shape := ⟨2, ![1, 8192]⟩

abbrev nBuf : Space → Nat
  | .hbm => 20
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S_, .i32⟩
  | .hbm, ⟨2, _⟩ => ⟨S16384, .f32⟩
  | .hbm, ⟨3, _⟩ => ⟨S128x20, .f32⟩
  | .hbm, ⟨4, _⟩ => ⟨S20, .f32⟩
  | .hbm, ⟨5, _⟩ => ⟨S20x2, .f32⟩
  | .hbm, ⟨6, _⟩ => ⟨S2, .f32⟩
  | .hbm, ⟨7, _⟩ => ⟨S128x20, .f32⟩
  | .hbm, ⟨8, _⟩ => ⟨S20, .f32⟩
  | .hbm, ⟨9, _⟩ => ⟨S20x1, .f32⟩
  | .hbm, ⟨10, _⟩ => ⟨S1, .f32⟩
  | .hbm, ⟨11, _⟩ => ⟨S128x20, .f32⟩
  | .hbm, ⟨12, _⟩ => ⟨S20, .f32⟩
  | .hbm, ⟨13, _⟩ => ⟨S20x1, .f32⟩
  | .hbm, ⟨14, _⟩ => ⟨S1, .f32⟩
  | .hbm, ⟨15, _⟩ => ⟨S1x1, .i32⟩
  | .hbm, ⟨16, _⟩ => ⟨S1x20, .f32⟩
  | .hbm, ⟨17, _⟩ => ⟨S2x1, .f32⟩
  | .hbm, ⟨18, _⟩ => ⟨S2x1x8192, .i32⟩
  | .hbm, ⟨19, _⟩ => ⟨S16384x1, .i32⟩
  | .local _ .vmem, ⟨0, _⟩ => ⟨S8192x128, .f32⟩
  | .local _ .vmem, ⟨1, _⟩ => ⟨S8192x128, .f32⟩
  | .local _ .vmem, ⟨2, _⟩ => ⟨S128x20, .f32⟩
  | .local _ .vmem, ⟨3, _⟩ => ⟨S1x20, .f32⟩
  | .local _ .vmem, ⟨4, _⟩ => ⟨S20x2, .f32⟩
  | .local _ .vmem, ⟨5, _⟩ => ⟨S2x1, .f32⟩
  | .local _ .vmem, ⟨6, _⟩ => ⟨S1x1, .i32⟩
  | .local _ .vmem, ⟨7, _⟩ => ⟨S1x1x8192, .i32⟩
  | .local _ .vmem, ⟨8, _⟩ => ⟨S1x1x8192, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "floor" => some ((1 / 400 : ℝ) : EReal)
  | "keep" => some ((19 / 20 : ℝ) : EReal)
  | _ => none
-- ==== ReferenceIdeal.lean ====
abbrev S16384x128 : Shape := ⟨2, ![16384, 128]⟩
abbrev S_ : Shape := ⟨0, ![]⟩
abbrev S16384 : Shape := ⟨1, ![16384]⟩
abbrev S128x20 : Shape := ⟨2, ![128, 20]⟩
abbrev S20 : Shape := ⟨1, ![20]⟩
abbrev S20x2 : Shape := ⟨2, ![20, 2]⟩
abbrev S2 : Shape := ⟨1, ![2]⟩
abbrev S20x1 : Shape := ⟨2, ![20, 1]⟩
abbrev S1 : Shape := ⟨1, ![1]⟩
abbrev S2x1 : Shape := ⟨2, ![2, 1]⟩
abbrev S2x2 : Shape := ⟨2, ![2, 2]⟩
abbrev S1x2 : Shape := ⟨2, ![1, 2]⟩
abbrev S16384x1 : Shape := ⟨2, ![16384, 1]⟩
abbrev S16384x20 : Shape := ⟨2, ![16384, 20]⟩
abbrev S1x20 : Shape := ⟨2, ![1, 20]⟩
abbrev S16384x2 : Shape := ⟨2, ![16384, 2]⟩
abbrev S1x1 : Shape := ⟨2, ![1, 1]⟩

abbrev nBuf : Space → Nat
  | .hbm => 591
  | .vmem => 0
  | .smem => 0
  | _ => 0

abbrev hbmTy0_0 (i : Nat) : BufTy := match i % 128 with
  | 0 => ⟨S16384x128, .f32⟩
  | 1 => ⟨S_, .i32⟩
  | 2 => ⟨S16384, .f32⟩
  | 3 => ⟨S128x20, .f32⟩
  | 4 => ⟨S20, .f32⟩
  | 5 => ⟨S20x2, .f32⟩
  | 6 => ⟨S2, .f32⟩
  | 7 => ⟨S128x20, .f32⟩
  | 8 => ⟨S20, .f32⟩
  | 9 => ⟨S20x1, .f32⟩
  | 10 => ⟨S1, .f32⟩
  | 11 => ⟨S128x20, .f32⟩
  | 12 => ⟨S20, .f32⟩
  | 13 => ⟨S20x1, .f32⟩
  | 14 => ⟨S1, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S1, .i32⟩
  | 26 => ⟨S_, .i32⟩
  | 27 => ⟨S1, .i32⟩
  | 28 => ⟨S_, .i32⟩
  | 29 => ⟨S2, .i64⟩
  | 30 => ⟨S_, .i64⟩
  | 31 => ⟨S2, .i64⟩
  | 32 => ⟨S2, .i64⟩
  | 33 => ⟨S_, .i64⟩
  | 34 => ⟨S2, .i64⟩
  | 35 => ⟨S2, .i64⟩
  | 36 => ⟨S2, .i32⟩
  | 37 => ⟨S2, .i32⟩
  | 38 => ⟨S_, .i32⟩
  | 39 => ⟨S_, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S16384x128, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S16384x128, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2x1, .i32⟩
  | 5 => ⟨S2x1, .i32⟩
  | 6 => ⟨S2x2, .i32⟩
  | 7 => ⟨S1x2, .i32⟩
  | 8 => ⟨S2, .i32⟩
  | 9 => ⟨S1x2, .i32⟩
  | 10 => ⟨S2, .i32⟩
  | 11 => ⟨S_, .f32⟩
  | 12 => ⟨S16384x1, .f32⟩
  | 13 => ⟨S_, .f32⟩
  | 14 => ⟨S16384x1, .f32⟩
  | 15 => ⟨S16384x1, .i1⟩
  | 16 => ⟨S16384x1, .i32⟩
  | 17 => ⟨S16384x20, .f32⟩
  | 18 => ⟨S1x20, .f32⟩
  | 19 => ⟨S16384x20, .f32⟩
  | 20 => ⟨S16384x20, .f32⟩
  | 21 => ⟨S_, .f32⟩
  | 22 => ⟨S16384x20, .f32⟩
  | 23 => ⟨S16384x20, .f32⟩
  | 24 => ⟨S16384x2, .f32⟩
  | 25 => ⟨S1x2, .f32⟩
  | 26 => ⟨S16384x2, .f32⟩
  | 27 => ⟨S16384x2, .f32⟩
  | 28 => ⟨S_, .f32⟩
  | 29 => ⟨S16384, .f32⟩
  | 30 => ⟨S_, .f32⟩
  | 31 => ⟨S16384, .f32⟩
  | 32 => ⟨S16384, .f32⟩
  | 33 => ⟨S16384x1, .f32⟩
  | 34 => ⟨S16384x2, .f32⟩
  | 35 => ⟨S16384x2, .f32⟩
  | 36 => ⟨S16384x2, .f32⟩
  | 37 => ⟨S_, .f32⟩
  | 38 => ⟨S16384, .f32⟩
  | 39 => ⟨S16384x1, .f32⟩
  | 40 => ⟨S16384x2, .f32⟩
  | 41 => ⟨S16384x2, .f32⟩
  | 42 => ⟨S_, .f32⟩
  | 43 => ⟨S_, .f32⟩
  | 44 => ⟨S_, .f32⟩
  | 45 => ⟨S_, .f32⟩
  | 46 => ⟨S_, .f32⟩
  | 47 => ⟨S16384x2, .f32⟩
  | 48 => ⟨S16384x2, .f32⟩
  | 49 => ⟨S_, .f32⟩
  | 50 => ⟨S_, .f32⟩
  | 51 => ⟨S_, .f32⟩
  | 52 => ⟨S_, .f32⟩
  | 53 => ⟨S16384x2, .f32⟩
  | 54 => ⟨S16384x2, .f32⟩
  | 55 => ⟨S16384x2, .f32⟩
  | 56 => ⟨S_, .f32⟩
  | 57 => ⟨S_, .f32⟩
  | 58 => ⟨S_, .f32⟩
  | 59 => ⟨S1x1, .f32⟩
  | 60 => ⟨S1x1, .f32⟩
  | 61 => ⟨S1, .i32⟩
  | 62 => ⟨S_, .i32⟩
  | 63 => ⟨S1, .i32⟩
  | 64 => ⟨S_, .i32⟩
  | 65 => ⟨S16384x2, .i64⟩
  | 66 => ⟨S16384x2, .i64⟩
  | 67 => ⟨S_, .i64⟩
  | 68 => ⟨S16384x2, .i64⟩
  | 69 => ⟨S16384x2, .i64⟩
  | 70 => ⟨S_, .i64⟩
  | 71 => ⟨S16384x2, .i64⟩
  | 72 => ⟨S16384x2, .i64⟩
  | 73 => ⟨S16384x2, .i64⟩
  | 74 => ⟨S_, .i64⟩
  | 75 => ⟨S16384x2, .i64⟩
  | 76 => ⟨S16384x2, .i64⟩
  | 77 => ⟨S16384x2, .i32⟩
  | 78 => ⟨S16384x2, .i32⟩
  | 79 => ⟨S_, .i32⟩
  | 80 => ⟨S_, .i32⟩
  | 81 => ⟨S_, .i32⟩
  | 82 => ⟨S16384x2, .i32⟩
  | 83 => ⟨S16384x2, .i32⟩
  | 84 => ⟨S16384x2, .i32⟩
  | 85 => ⟨S16384x2, .i32⟩
  | 86 => ⟨S16384x2, .i32⟩
  | 87 => ⟨S_, .i32⟩
  | 88 => ⟨S16384x2, .i32⟩
  | 89 => ⟨S16384x2, .i32⟩
  | 90 => ⟨S_, .i32⟩
  | 91 => ⟨S16384x2, .i32⟩
  | 92 => ⟨S16384x2, .i32⟩
  | 93 => ⟨S16384x2, .i32⟩
  | 94 => ⟨S16384x2, .i32⟩
  | 95 => ⟨S16384x2, .i32⟩
  | 96 => ⟨S_, .i32⟩
  | 97 => ⟨S16384x2, .i32⟩
  | 98 => ⟨S16384x2, .i32⟩
  | 99 => ⟨S_, .i32⟩
  | 100 => ⟨S16384x2, .i32⟩
  | 101 => ⟨S16384x2, .i32⟩
  | 102 => ⟨S16384x2, .i32⟩
  | 103 => ⟨S16384x2, .i32⟩
  | 104 => ⟨S16384x2, .i32⟩
  | 105 => ⟨S_, .i32⟩
  | 106 => ⟨S16384x2, .i32⟩
  | 107 => ⟨S16384x2, .i32⟩
  | 108 => ⟨S_, .i32⟩
  | 109 => ⟨S16384x2, .i32⟩
  | 110 => ⟨S16384x2, .i32⟩
  | 111 => ⟨S16384x2, .i32⟩
  | 112 => ⟨S16384x2, .i32⟩
  | 113 => ⟨S16384x2, .i32⟩
  | 114 => ⟨S_, .i32⟩
  | 115 => ⟨S16384x2, .i32⟩
  | 116 => ⟨S16384x2, .i32⟩
  | 117 => ⟨S_, .i32⟩
  | 118 => ⟨S16384x2, .i32⟩
  | 119 => ⟨S16384x2, .i32⟩
  | 120 => ⟨S16384x2, .i32⟩
  | 121 => ⟨S16384x2, .i32⟩
  | 122 => ⟨S16384x2, .i32⟩
  | 123 => ⟨S16384x2, .i32⟩
  | 124 => ⟨S16384x2, .i32⟩
  | 125 => ⟨S16384x2, .i32⟩
  | 126 => ⟨S_, .i32⟩
  | 127 => ⟨S16384x2, .i32⟩
  | _ => ⟨S16384x128, .f32⟩

abbrev hbmTy0_3 (i : Nat) : BufTy := match i % 128 with
  | 0 => ⟨S16384x2, .i32⟩
  | 1 => ⟨S16384x2, .i32⟩
  | 2 => ⟨S_, .i32⟩
  | 3 => ⟨S16384x2, .i32⟩
  | 4 => ⟨S16384x2, .i32⟩
  | 5 => ⟨S_, .i32⟩
  | 6 => ⟨S16384x2, .i32⟩
  | 7 => ⟨S16384x2, .i32⟩
  | 8 => ⟨S16384x2, .i32⟩
  | 9 => ⟨S16384x2, .i32⟩
  | 10 => ⟨S16384x2, .i32⟩
  | 11 => ⟨S_, .i32⟩
  | 12 => ⟨S16384x2, .i32⟩
  | 13 => ⟨S16384x2, .i32⟩
  | 14 => ⟨S_, .i32⟩
  | 15 => ⟨S16384x2, .i32⟩
  | 16 => ⟨S16384x2, .i32⟩
  | 17 => ⟨S16384x2, .i32⟩
  | 18 => ⟨S16384x2, .i32⟩
  | 19 => ⟨S16384x2, .i32⟩
  | 20 => ⟨S_, .i32⟩
  | 21 => ⟨S16384x2, .i32⟩
  | 22 => ⟨S16384x2, .i32⟩
  | 23 => ⟨S_, .i32⟩
  | 24 => ⟨S16384x2, .i32⟩
  | 25 => ⟨S16384x2, .i32⟩
  | 26 => ⟨S16384x2, .i32⟩
  | 27 => ⟨S16384x2, .i32⟩
  | 28 => ⟨S16384x2, .i32⟩
  | 29 => ⟨S_, .i32⟩
  | 30 => ⟨S16384x2, .i32⟩
  | 31 => ⟨S16384x2, .i32⟩
  | 32 => ⟨S_, .i32⟩
  | 33 => ⟨S16384x2, .i32⟩
  | 34 => ⟨S16384x2, .i32⟩
  | 35 => ⟨S16384x2, .i32⟩
  | 36 => ⟨S16384x2, .i32⟩
  | 37 => ⟨S16384x2, .i32⟩
  | 38 => ⟨S16384x2, .i32⟩
  | 39 => ⟨S16384x2, .i32⟩
  | 40 => ⟨S16384x2, .i32⟩
  | 41 => ⟨S_, .i32⟩
  | 42 => ⟨S16384x2, .i32⟩
  | 43 => ⟨S16384x2, .i32⟩
  | 44 => ⟨S16384x2, .i32⟩
  | 45 => ⟨S_, .i32⟩
  | 46 => ⟨S16384x2, .i32⟩
  | 47 => ⟨S16384x2, .i32⟩
  | 48 => ⟨S_, .i32⟩
  | 49 => ⟨S16384x2, .i32⟩
  | 50 => ⟨S16384x2, .i32⟩
  | 51 => ⟨S16384x2, .i32⟩
  | 52 => ⟨S16384x2, .i32⟩
  | 53 => ⟨S16384x2, .i32⟩
  | 54 => ⟨S_, .i32⟩
  | 55 => ⟨S16384x2, .i32⟩
  | 56 => ⟨S16384x2, .i32⟩
  | 57 => ⟨S_, .i32⟩
  | 58 => ⟨S16384x2, .i32⟩
  | 59 => ⟨S16384x2, .i32⟩
  | 60 => ⟨S16384x2, .i32⟩
  | 61 => ⟨S16384x2, .i32⟩
  | 62 => ⟨S16384x2, .i32⟩
  | 63 => ⟨S_, .i32⟩
  | 64 => ⟨S16384x2, .i32⟩
  | 65 => ⟨S16384x2, .i32⟩
  | 66 => ⟨S_, .i32⟩
  | 67 => ⟨S16384x2, .i32⟩
  | 68 => ⟨S16384x2, .i32⟩
  | 69 => ⟨S16384x2, .i32⟩
  | 70 => ⟨S16384x2, .i32⟩
  | 71 => ⟨S16384x2, .i32⟩
  | 72 => ⟨S_, .i32⟩
  | 73 => ⟨S16384x2, .i32⟩
  | 74 => ⟨S16384x2, .i32⟩
  | 75 => ⟨S_, .i32⟩
  | 76 => ⟨S16384x2, .i32⟩
  | 77 => ⟨S16384x2, .i32⟩
  | 78 => ⟨S16384x2, .i32⟩
  | 79 => ⟨S16384x2, .i32⟩
  | 80 => ⟨S16384x2, .i32⟩
  | 81 => ⟨S16384x2, .i32⟩
  | 82 => ⟨S16384x2, .i32⟩
  | 83 => ⟨S16384x2, .i32⟩
  | 84 => ⟨S_, .i32⟩
  | 85 => ⟨S16384x2, .i32⟩
  | 86 => ⟨S16384x2, .i32⟩
  | 87 => ⟨S16384x2, .i32⟩
  | 88 => ⟨S_, .i32⟩
  | 89 => ⟨S16384x2, .i32⟩
  | 90 => ⟨S16384x2, .i32⟩
  | 91 => ⟨S_, .i32⟩
  | 92 => ⟨S16384x2, .i32⟩
  | 93 => ⟨S16384x2, .i32⟩
  | 94 => ⟨S16384x2, .i32⟩
  | 95 => ⟨S16384x2, .i32⟩
  | 96 => ⟨S16384x2, .i32⟩
  | 97 => ⟨S_, .i32⟩
  | 98 => ⟨S16384x2, .i32⟩
  | 99 => ⟨S16384x2, .i32⟩
  | 100 => ⟨S_, .i32⟩
  | 101 => ⟨S16384x2, .i32⟩
  | 102 => ⟨S16384x2, .i32⟩
  | 103 => ⟨S16384x2, .i32⟩
  | 104 => ⟨S16384x2, .i32⟩
  | 105 => ⟨S16384x2, .i32⟩
  | 106 => ⟨S_, .i32⟩
  | 107 => ⟨S16384x2, .i32⟩
  | 108 => ⟨S16384x2, .i32⟩
  | 109 => ⟨S_, .i32⟩
  | 110 => ⟨S16384x2, .i32⟩
  | 111 => ⟨S16384x2, .i32⟩
  | 112 => ⟨S16384x2, .i32⟩
  | 113 => ⟨S16384x2, .i32⟩
  | 114 => ⟨S16384x2, .i32⟩
  | 115 => ⟨S_, .i32⟩
  | 116 => ⟨S16384x2, .i32⟩
  | 117 => ⟨S16384x2, .i32⟩
  | 118 => ⟨S_, .i32⟩
  | 119 => ⟨S16384x2, .i32⟩
  | 120 => ⟨S16384x2, .i32⟩
  | 121 => ⟨S16384x2, .i32⟩
  | 122 => ⟨S16384x2, .i32⟩
  | 123 => ⟨S16384x2, .i32⟩
  | 124 => ⟨S16384x2, .i32⟩
  | 125 => ⟨S16384x2, .i32⟩
  | 126 => ⟨S16384x2, .i32⟩
  | 127 => ⟨S_, .i32⟩
  | _ => ⟨S16384x128, .f32⟩

abbrev hbmTy0_4 (i : Nat) : BufTy := match i % 128 with
  | 0 => ⟨S16384x2, .i32⟩
  | 1 => ⟨S16384x2, .i32⟩
  | 2 => ⟨S16384x2, .i32⟩
  | 3 => ⟨S_, .i32⟩
  | 4 => ⟨S16384x2, .i32⟩
  | 5 => ⟨S16384x2, .i32⟩
  | 6 => ⟨S_, .i32⟩
  | 7 => ⟨S16384x2, .i32⟩
  | 8 => ⟨S16384x2, .i32⟩
  | 9 => ⟨S16384x2, .i32⟩
  | 10 => ⟨S16384x2, .i32⟩
  | 11 => ⟨S16384x2, .i32⟩
  | 12 => ⟨S_, .i32⟩
  | 13 => ⟨S16384x2, .i32⟩
  | 14 => ⟨S16384x2, .i32⟩
  | 15 => ⟨S_, .i32⟩
  | 16 => ⟨S16384x2, .i32⟩
  | 17 => ⟨S16384x2, .i32⟩
  | 18 => ⟨S16384x2, .i32⟩
  | 19 => ⟨S16384x2, .i32⟩
  | 20 => ⟨S16384x2, .i32⟩
  | 21 => ⟨S_, .i32⟩
  | 22 => ⟨S16384x2, .i32⟩
  | 23 => ⟨S16384x2, .i32⟩
  | 24 => ⟨S_, .i32⟩
  | 25 => ⟨S16384x2, .i32⟩
  | 26 => ⟨S16384x2, .i32⟩
  | 27 => ⟨S16384x2, .i32⟩
  | 28 => ⟨S16384x2, .i32⟩
  | 29 => ⟨S16384x2, .i32⟩
  | 30 => ⟨S_, .i32⟩
  | 31 => ⟨S16384x2, .i32⟩
  | 32 => ⟨S16384x2, .i32⟩
  | 33 => ⟨S_, .i32⟩
  | 34 => ⟨S16384x2, .i32⟩
  | 35 => ⟨S16384x2, .i32⟩
  | 36 => ⟨S16384x2, .i32⟩
  | 37 => ⟨S16384x2, .i32⟩
  | 38 => ⟨S16384x2, .i32⟩
  | 39 => ⟨S16384x2, .i32⟩
  | 40 => ⟨S16384x2, .i32⟩
  | 41 => ⟨S16384x2, .i32⟩
  | 42 => ⟨S_, .i32⟩
  | 43 => ⟨S16384x2, .i32⟩
  | 44 => ⟨S16384x2, .i32⟩
  | 45 => ⟨S16384x2, .i32⟩
  | 46 => ⟨S_, .i32⟩
  | 47 => ⟨S16384x2, .i32⟩
  | 48 => ⟨S16384x2, .i32⟩
  | 49 => ⟨S_, .i32⟩
  | 50 => ⟨S16384x2, .i32⟩
  | 51 => ⟨S16384x2, .i32⟩
  | 52 => ⟨S16384x2, .f32⟩
  | 53 => ⟨S_, .f32⟩
  | 54 => ⟨S16384x2, .f32⟩
  | 55 => ⟨S16384x2, .f32⟩
  | 56 => ⟨S1x1, .f32⟩
  | 57 => ⟨S16384x2, .f32⟩
  | 58 => ⟨S16384x2, .f32⟩
  | 59 => ⟨S16384x2, .f32⟩
  | 60 => ⟨S16384x2, .f32⟩
  | 61 => ⟨S16384x2, .f32⟩
  | 62 => ⟨S16384x2, .f32⟩
  | 63 => ⟨S16384x2, .f32⟩
  | 64 => ⟨S16384x2, .f32⟩
  | 65 => ⟨S16384x2, .f32⟩
  | 66 => ⟨S16384x2, .f32⟩
  | 67 => ⟨S16384x2, .f32⟩
  | 68 => ⟨S16384x2, .i32⟩
  | 69 => ⟨S_, .f32⟩
  | 70 => ⟨S_, .i32⟩
  | 71 => ⟨S16384, .f32⟩
  | 72 => ⟨S16384, .i32⟩
  | 73 => ⟨S_, .i32⟩
  | 74 => ⟨S16384, .i32⟩
  | 75 => ⟨S16384, .i1⟩
  | 76 => ⟨S16384, .i32⟩
  | 77 => ⟨S16384x1, .i32⟩
  | 78 => ⟨S16384x1, .i32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c : Ref sig .tc := ⟨.hbm, 30, rfl⟩
abbrev main_call0_v5 : Ref sig .tc := ⟨.hbm, 31, rfl⟩
abbrev main_call0_v6 : Ref sig .tc := ⟨.hbm, 32, rfl⟩
abbrev main_call0_c_0 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v11_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v11_1 : Ref sig .tc := ⟨.hbm, 259, rfl⟩
abbrev main_call0_v12 : Ref sig .tc := ⟨.hbm, 260, rfl⟩
abbrev main_call0_v13 : Ref sig .tc := ⟨.hbm, 261, rfl⟩
abbrev main_v7 : Ref sig .tc := ⟨.hbm, 262, rfl⟩
abbrev main_v8 : Ref sig .tc := ⟨.hbm, 263, rfl⟩
abbrev main_v9 : Ref sig .tc := ⟨.hbm, 264, rfl⟩
abbrev main_v10 : Ref sig .tc := ⟨.hbm, 265, rfl⟩
abbrev main_v11 : Ref sig .tc := ⟨.hbm, 266, rfl⟩
abbrev main_cst : Ref sig .tc := ⟨.hbm, 267, rfl⟩
abbrev main_v12 : Ref sig .tc := ⟨.hbm, 268, rfl⟩
abbrev main_v13 : Ref sig .tc := ⟨.hbm, 269, rfl⟩
abbrev main_v14 : Ref sig .tc := ⟨.hbm, 270, rfl⟩
abbrev main_v15 : Ref sig .tc := ⟨.hbm, 271, rfl⟩
abbrev main_v16 : Ref sig .tc := ⟨.hbm, 272, rfl⟩
abbrev main_v17 : Ref sig .tc := ⟨.hbm, 273, rfl⟩
abbrev main_v18 : Ref sig .tc := ⟨.hbm, 274, rfl⟩
abbrev main_v19 : Ref sig .tc := ⟨.hbm, 275, rfl⟩
abbrev main_v20 : Ref sig .tc := ⟨.hbm, 276, rfl⟩
abbrev main_cst_2 : Ref sig .tc := ⟨.hbm, 277, rfl⟩
abbrev main_v21 : Ref sig .tc := ⟨.hbm, 278, rfl⟩
abbrev main_v22 : Ref sig .tc := ⟨.hbm, 279, rfl⟩
abbrev main_v23 : Ref sig .tc := ⟨.hbm, 280, rfl⟩
abbrev main_v24 : Ref sig .tc := ⟨.hbm, 281, rfl⟩
abbrev main_v25 : Ref sig .tc := ⟨.hbm, 282, rfl⟩
abbrev main_v26 : Ref sig .tc := ⟨.hbm, 283, rfl⟩
abbrev main_cst_3 : Ref sig .tc := ⟨.hbm, 284, rfl⟩
abbrev main_v27 : Ref sig .tc := ⟨.hbm, 285, rfl⟩
abbrev main_cst_4 : Ref sig .tc := ⟨.hbm, 286, rfl⟩
abbrev main_v28 : Ref sig .tc := ⟨.hbm, 287, rfl⟩
abbrev main_v29 : Ref sig .tc := ⟨.hbm, 288, rfl⟩
abbrev main_v30 : Ref sig .tc := ⟨.hbm, 289, rfl⟩
abbrev main_v31 : Ref sig .tc := ⟨.hbm, 290, rfl⟩
abbrev main_v32 : Ref sig .tc := ⟨.hbm, 291, rfl⟩
abbrev main_v33 : Ref sig .tc := ⟨.hbm, 292, rfl⟩
abbrev main_cst_5 : Ref sig .tc := ⟨.hbm, 293, rfl⟩
abbrev main_v34 : Ref sig .tc := ⟨.hbm, 294, rfl⟩
abbrev main_v35 : Ref sig .tc := ⟨.hbm, 295, rfl⟩
abbrev main_v36 : Ref sig .tc := ⟨.hbm, 296, rfl⟩
abbrev main_v37 : Ref sig .tc := ⟨.hbm, 297, rfl⟩
abbrev main_cst_6 : Ref sig .tc := ⟨.hbm, 298, rfl⟩
abbrev main_cst_7 : Ref sig .tc := ⟨.hbm, 299, rfl⟩
abbrev main_v38 : Ref sig .tc := ⟨.hbm, 300, rfl⟩
abbrev main_cst_8 : Ref sig .tc := ⟨.hbm, 301, rfl⟩
abbrev main_v39 : Ref sig .tc := ⟨.hbm, 302, rfl⟩
abbrev main_v40 : Ref sig .tc := ⟨.hbm, 303, rfl⟩
abbrev main_v41 : Ref sig .tc := ⟨.hbm, 304, rfl⟩
abbrev main_cst_9 : Ref sig .tc := ⟨.hbm, 305, rfl⟩
abbrev main_cst_10 : Ref sig .tc := ⟨.hbm, 306, rfl⟩
abbrev main_v42 : Ref sig .tc := ⟨.hbm, 307, rfl⟩
abbrev main_v43 : Ref sig .tc := ⟨.hbm, 308, rfl⟩
abbrev main_v44 : Ref sig .tc := ⟨.hbm, 309, rfl⟩
abbrev main_v45 : Ref sig .tc := ⟨.hbm, 310, rfl⟩
abbrev main_v46 : Ref sig .tc := ⟨.hbm, 311, rfl⟩
abbrev main_call1_cst : Ref sig .tc := ⟨.hbm, 312, rfl⟩
abbrev main_call1_cst_0 : Ref sig .tc := ⟨.hbm, 313, rfl⟩
abbrev main_call1_call0_v0 : Ref sig .tc := ⟨.hbm, 314, rfl⟩
abbrev main_call1_call0_v1 : Ref sig .tc := ⟨.hbm, 315, rfl⟩
abbrev main_call1_call0_v2 : Ref sig .tc := ⟨.hbm, 316, rfl⟩
abbrev main_call1_call0_v3 : Ref sig .tc := ⟨.hbm, 317, rfl⟩
abbrev main_call1_call0_v4 : Ref sig .tc := ⟨.hbm, 318, rfl⟩
abbrev main_call1_call0_v5 : Ref sig .tc := ⟨.hbm, 319, rfl⟩
abbrev main_call1_call0_v6 : Ref sig .tc := ⟨.hbm, 320, rfl⟩
abbrev main_call1_call0_v7 : Ref sig .tc := ⟨.hbm, 321, rfl⟩
abbrev main_call1_call0_v8 : Ref sig .tc := ⟨.hbm, 322, rfl⟩
abbrev main_call1_call0_c : Ref sig .tc := ⟨.hbm, 323, rfl⟩
abbrev main_call1_call0_v9 : Ref sig .tc := ⟨.hbm, 324, rfl⟩
abbrev main_call1_call0_v10 : Ref sig .tc := ⟨.hbm, 325, rfl⟩
abbrev main_call1_call0_c_0 : Ref sig .tc := ⟨.hbm, 326, rfl⟩
abbrev main_call1_call0_v11 : Ref sig .tc := ⟨.hbm, 327, rfl⟩
abbrev main_call1_call0_v12 : Ref sig .tc := ⟨.hbm, 328, rfl⟩
abbrev main_call1_call0_v13 : Ref sig .tc := ⟨.hbm, 329, rfl⟩
abbrev main_call1_call0_c_1 : Ref sig .tc := ⟨.hbm, 330, rfl⟩
abbrev main_call1_call0_v14 : Ref sig .tc := ⟨.hbm, 331, rfl⟩
abbrev main_call1_call0_v15 : Ref sig .tc := ⟨.hbm, 332, rfl⟩
abbrev main_call1_call0_v16 : Ref sig .tc := ⟨.hbm, 333, rfl⟩
abbrev main_call1_call0_v17 : Ref sig .tc := ⟨.hbm, 334, rfl⟩
abbrev main_call1_call0_call0_v0 : Ref sig .tc := ⟨.hbm, 335, rfl⟩
abbrev main_call1_call0_call0_c : Ref sig .tc := ⟨.hbm, 336, rfl⟩
abbrev main_call1_call0_call0_v1 : Ref sig .tc := ⟨.hbm, 337, rfl⟩
abbrev main_call1_call0_call0_v2 : Ref sig .tc := ⟨.hbm, 338, rfl⟩
abbrev main_call1_call0_call0_v3 : Ref sig .tc := ⟨.hbm, 339, rfl⟩
abbrev main_call1_call0_call0_v4 : Ref sig .tc := ⟨.hbm, 340, rfl⟩
abbrev main_call1_call0_call0_v5 : Ref sig .tc := ⟨.hbm, 341, rfl⟩
abbrev main_call1_call0_call0_v6 : Ref sig .tc := ⟨.hbm, 342, rfl⟩
abbrev main_call1_call0_call0_c_0 : Ref sig .tc := ⟨.hbm, 343, rfl⟩
abbrev main_call1_call0_call0_v7 : Ref sig .tc := ⟨.hbm, 344, rfl⟩
abbrev main_call1_call0_call0_v8 : Ref sig .tc := ⟨.hbm, 345, rfl⟩
abbrev main_call1_call0_call0_c_1 : Ref sig .tc := ⟨.hbm, 346, rfl⟩
abbrev main_call1_call0_call0_v9 : Ref sig .tc := ⟨.hbm, 347, rfl⟩
abbrev main_call1_call0_call0_v10 : Ref sig .tc := ⟨.hbm, 348, rfl⟩
abbrev main_call1_call0_call0_v11 : Ref sig .tc := ⟨.hbm, 349, rfl⟩
abbrev main_call1_call0_call0_v12 : Ref sig .tc := ⟨.hbm, 350, rfl⟩
abbrev main_call1_call0_call0_v13 : Ref sig .tc := ⟨.hbm, 351, rfl⟩
abbrev main_call1_call0_call0_c_2 : Ref sig .tc := ⟨.hbm, 352, rfl⟩
abbrev main_call1_call0_call0_v14 : Ref sig .tc := ⟨.hbm, 353, rfl⟩
abbrev main_call1_call0_call0_v15 : Ref sig .tc := ⟨.hbm, 354, rfl⟩
abbrev main_call1_call0_call0_c_3 : Ref sig .tc := ⟨.hbm, 355, rfl⟩
abbrev main_call1_call0_call0_v16 : Ref sig .tc := ⟨.hbm, 356, rfl⟩
abbrev main_call1_call0_call0_v17 : Ref sig .tc := ⟨.hbm, 357, rfl⟩
abbrev main_call1_call0_call0_v18 : Ref sig .tc := ⟨.hbm, 358, rfl⟩
abbrev main_call1_call0_call0_v19 : Ref sig .tc := ⟨.hbm, 359, rfl⟩
abbrev main_call1_call0_call0_v20 : Ref sig .tc := ⟨.hbm, 360, rfl⟩
abbrev main_call1_call0_call0_c_4 : Ref sig .tc := ⟨.hbm, 361, rfl⟩
abbrev main_call1_call0_call0_v21 : Ref sig .tc := ⟨.hbm, 362, rfl⟩
abbrev main_call1_call0_call0_v22 : Ref sig .tc := ⟨.hbm, 363, rfl⟩
abbrev main_call1_call0_call0_c_5 : Ref sig .tc := ⟨.hbm, 364, rfl⟩
abbrev main_call1_call0_call0_v23 : Ref sig .tc := ⟨.hbm, 365, rfl⟩
abbrev main_call1_call0_call0_v24 : Ref sig .tc := ⟨.hbm, 366, rfl⟩
abbrev main_call1_call0_call0_v25 : Ref sig .tc := ⟨.hbm, 367, rfl⟩
abbrev main_call1_call0_call0_v26 : Ref sig .tc := ⟨.hbm, 368, rfl⟩
abbrev main_call1_call0_call0_v27 : Ref sig .tc := ⟨.hbm, 369, rfl⟩
abbrev main_call1_call0_call0_c_6 : Ref sig .tc := ⟨.hbm, 370, rfl⟩
abbrev main_call1_call0_call0_v28 : Ref sig .tc := ⟨.hbm, 371, rfl⟩
abbrev main_call1_call0_call0_v29 : Ref sig .tc := ⟨.hbm, 372, rfl⟩
abbrev main_call1_call0_call0_c_7 : Ref sig .tc := ⟨.hbm, 373, rfl⟩
abbrev main_call1_call0_call0_v30 : Ref sig .tc := ⟨.hbm, 374, rfl⟩
abbrev main_call1_call0_call0_v31 : Ref sig .tc := ⟨.hbm, 375, rfl⟩
abbrev main_call1_call0_call0_v32 : Ref sig .tc := ⟨.hbm, 376, rfl⟩
abbrev main_call1_call0_call0_v33 : Ref sig .tc := ⟨.hbm, 377, rfl⟩
abbrev main_call1_call0_call0_v34 : Ref sig .tc := ⟨.hbm, 378, rfl⟩
abbrev main_call1_call0_call0_v35 : Ref sig .tc := ⟨.hbm, 379, rfl⟩
abbrev main_call1_call0_call0_v36 : Ref sig .tc := ⟨.hbm, 380, rfl⟩
abbrev main_call1_call0_call0_v37 : Ref sig .tc := ⟨.hbm, 381, rfl⟩
abbrev main_call1_call0_call0_c_8 : Ref sig .tc := ⟨.hbm, 382, rfl⟩
abbrev main_call1_call0_call0_v38 : Ref sig .tc := ⟨.hbm, 383, rfl⟩
abbrev main_call1_call0_call0_v39 : Ref sig .tc := ⟨.hbm, 384, rfl⟩
abbrev main_call1_call0_call0_v40 : Ref sig .tc := ⟨.hbm, 385, rfl⟩
abbrev main_call1_call0_call0_c_9 : Ref sig .tc := ⟨.hbm, 386, rfl⟩
abbrev main_call1_call0_call0_v41 : Ref sig .tc := ⟨.hbm, 387, rfl⟩
abbrev main_call1_call0_call0_v42 : Ref sig .tc := ⟨.hbm, 388, rfl⟩
abbrev main_call1_call0_call0_c_10 : Ref sig .tc := ⟨.hbm, 389, rfl⟩
abbrev main_call1_call0_call0_v43 : Ref sig .tc := ⟨.hbm, 390, rfl⟩
abbrev main_call1_call0_call0_v44 : Ref sig .tc := ⟨.hbm, 391, rfl⟩
abbrev main_call1_call0_call0_v45 : Ref sig .tc := ⟨.hbm, 392, rfl⟩
abbrev main_call1_call0_call0_v46 : Ref sig .tc := ⟨.hbm, 393, rfl⟩
abbrev main_call1_call0_call0_v47 : Ref sig .tc := ⟨.hbm, 394, rfl⟩
abbrev main_call1_call0_call0_c_11 : Ref sig .tc := ⟨.hbm, 395, rfl⟩
abbrev main_call1_call0_call0_v48 : Ref sig .tc := ⟨.hbm, 396, rfl⟩
abbrev main_call1_call0_call0_v49 : Ref sig .tc := ⟨.hbm, 397, rfl⟩
abbrev main_call1_call0_call0_c_12 : Ref sig .tc := ⟨.hbm, 398, rfl⟩
abbrev main_call1_call0_call0_v50 : Ref sig .tc := ⟨.hbm, 399, rfl⟩
abbrev main_call1_call0_call0_v51 : Ref sig .tc := ⟨.hbm, 400, rfl⟩
abbrev main_call1_call0_call0_v52 : Ref sig .tc := ⟨.hbm, 401, rfl⟩
abbrev main_call1_call0_call0_v53 : Ref sig .tc := ⟨.hbm, 402, rfl⟩
abbrev main_call1_call0_call0_v54 : Ref sig .tc := ⟨.hbm, 403, rfl⟩
abbrev main_call1_call0_call0_c_13 : Ref sig .tc := ⟨.hbm, 404, rfl⟩
abbrev main_call1_call0_call0_v55 : Ref sig .tc := ⟨.hbm, 405, rfl⟩
abbrev main_call1_call0_call0_v56 : Ref sig .tc := ⟨.hbm, 406, rfl⟩
abbrev main_call1_call0_call0_c_14 : Ref sig .tc := ⟨.hbm, 407, rfl⟩
abbrev main_call1_call0_call0_v57 : Ref sig .tc := ⟨.hbm, 408, rfl⟩
abbrev main_call1_call0_call0_v58 : Ref sig .tc := ⟨.hbm, 409, rfl⟩
abbrev main_call1_call0_call0_v59 : Ref sig .tc := ⟨.hbm, 410, rfl⟩
abbrev main_call1_call0_call0_v60 : Ref sig .tc := ⟨.hbm, 411, rfl⟩
abbrev main_call1_call0_call0_v61 : Ref sig .tc := ⟨.hbm, 412, rfl⟩
abbrev main_call1_call0_call0_c_15 : Ref sig .tc := ⟨.hbm, 413, rfl⟩
abbrev main_call1_call0_call0_v62 : Ref sig .tc := ⟨.hbm, 414, rfl⟩
abbrev main_call1_call0_call0_v63 : Ref sig .tc := ⟨.hbm, 415, rfl⟩
abbrev main_call1_call0_call0_c_16 : Ref sig .tc := ⟨.hbm, 416, rfl⟩
abbrev main_call1_call0_call0_v64 : Ref sig .tc := ⟨.hbm, 417, rfl⟩
abbrev main_call1_call0_call0_v65 : Ref sig .tc := ⟨.hbm, 418, rfl⟩
abbrev main_call1_call0_call0_v66 : Ref sig .tc := ⟨.hbm, 419, rfl⟩
abbrev main_call1_call0_call0_v67 : Ref sig .tc := ⟨.hbm, 420, rfl⟩
abbrev main_call1_call0_call0_v68 : Ref sig .tc := ⟨.hbm, 421, rfl⟩
abbrev main_call1_call0_call0_v69 : Ref sig .tc := ⟨.hbm, 422, rfl⟩
abbrev main_call1_call0_call0_v70 : Ref sig .tc := ⟨.hbm, 423, rfl⟩
abbrev main_call1_call0_call0_v71 : Ref sig .tc := ⟨.hbm, 424, rfl⟩
abbrev main_call1_call0_call0_c_17 : Ref sig .tc := ⟨.hbm, 425, rfl⟩
abbrev main_call1_call0_call0_v72 : Ref sig .tc := ⟨.hbm, 426, rfl⟩
abbrev main_call1_call0_call0_v73 : Ref sig .tc := ⟨.hbm, 427, rfl⟩
abbrev main_call1_call0_call0_v74 : Ref sig .tc := ⟨.hbm, 428, rfl⟩
abbrev main_call1_call0_call0_c_18 : Ref sig .tc := ⟨.hbm, 429, rfl⟩
abbrev main_call1_call0_call0_v75 : Ref sig .tc := ⟨.hbm, 430, rfl⟩
abbrev main_call1_call0_call0_v76 : Ref sig .tc := ⟨.hbm, 431, rfl⟩
abbrev main_call1_call0_call0_c_19 : Ref sig .tc := ⟨.hbm, 432, rfl⟩
abbrev main_call1_call0_call0_v77 : Ref sig .tc := ⟨.hbm, 433, rfl⟩
abbrev main_call1_call0_call0_v78 : Ref sig .tc := ⟨.hbm, 434, rfl⟩
abbrev main_call1_call0_call0_v79 : Ref sig .tc := ⟨.hbm, 435, rfl⟩
abbrev main_call1_call0_call0_v80 : Ref sig .tc := ⟨.hbm, 436, rfl⟩
abbrev main_call1_call0_call0_v81 : Ref sig .tc := ⟨.hbm, 437, rfl⟩
abbrev main_call1_call0_call0_c_20 : Ref sig .tc := ⟨.hbm, 438, rfl⟩
abbrev main_call1_call0_call0_v82 : Ref sig .tc := ⟨.hbm, 439, rfl⟩
abbrev main_call1_call0_call0_v83 : Ref sig .tc := ⟨.hbm, 440, rfl⟩
abbrev main_call1_call0_call0_c_21 : Ref sig .tc := ⟨.hbm, 441, rfl⟩
abbrev main_call1_call0_call0_v84 : Ref sig .tc := ⟨.hbm, 442, rfl⟩
abbrev main_call1_call0_call0_v85 : Ref sig .tc := ⟨.hbm, 443, rfl⟩
abbrev main_call1_call0_call0_v86 : Ref sig .tc := ⟨.hbm, 444, rfl⟩
abbrev main_call1_call0_call0_v87 : Ref sig .tc := ⟨.hbm, 445, rfl⟩
abbrev main_call1_call0_call0_v88 : Ref sig .tc := ⟨.hbm, 446, rfl⟩
abbrev main_call1_call0_call0_c_22 : Ref sig .tc := ⟨.hbm, 447, rfl⟩
abbrev main_call1_call0_call0_v89 : Ref sig .tc := ⟨.hbm, 448, rfl⟩
abbrev main_call1_call0_call0_v90 : Ref sig .tc := ⟨.hbm, 449, rfl⟩
abbrev main_call1_call0_call0_c_23 : Ref sig .tc := ⟨.hbm, 450, rfl⟩
abbrev main_call1_call0_call0_v91 : Ref sig .tc := ⟨.hbm, 451, rfl⟩
abbrev main_call1_call0_call0_v92 : Ref sig .tc := ⟨.hbm, 452, rfl⟩
abbrev main_call1_call0_call0_v93 : Ref sig .tc := ⟨.hbm, 453, rfl⟩
abbrev main_call1_call0_call0_v94 : Ref sig .tc := ⟨.hbm, 454, rfl⟩
abbrev main_call1_call0_call0_v95 : Ref sig .tc := ⟨.hbm, 455, rfl⟩
abbrev main_call1_call0_call0_c_24 : Ref sig .tc := ⟨.hbm, 456, rfl⟩
abbrev main_call1_call0_call0_v96 : Ref sig .tc := ⟨.hbm, 457, rfl⟩
abbrev main_call1_call0_call0_v97 : Ref sig .tc := ⟨.hbm, 458, rfl⟩
abbrev main_call1_call0_call0_c_25 : Ref sig .tc := ⟨.hbm, 459, rfl⟩
abbrev main_call1_call0_call0_v98 : Ref sig .tc := ⟨.hbm, 460, rfl⟩
abbrev main_call1_call0_call0_v99 : Ref sig .tc := ⟨.hbm, 461, rfl⟩
abbrev main_call1_call0_call0_v100 : Ref sig .tc := ⟨.hbm, 462, rfl⟩
abbrev main_call1_call0_call0_v101 : Ref sig .tc := ⟨.hbm, 463, rfl⟩
abbrev main_call1_call0_call0_v102 : Ref sig .tc := ⟨.hbm, 464, rfl⟩
abbrev main_call1_call0_call0_v103 : Ref sig .tc := ⟨.hbm, 465, rfl⟩
abbrev main_call1_call0_call0_v104 : Ref sig .tc := ⟨.hbm, 466, rfl⟩
abbrev main_call1_call0_call0_v105 : Ref sig .tc := ⟨.hbm, 467, rfl⟩
abbrev main_call1_call0_call0_c_26 : Ref sig .tc := ⟨.hbm, 468, rfl⟩
abbrev main_call1_call0_call0_v106 : Ref sig .tc := ⟨.hbm, 469, rfl⟩
abbrev main_call1_call0_call0_v107 : Ref sig .tc := ⟨.hbm, 470, rfl⟩
abbrev main_call1_call0_call0_v108 : Ref sig .tc := ⟨.hbm, 471, rfl⟩
abbrev main_call1_call0_call0_c_27 : Ref sig .tc := ⟨.hbm, 472, rfl⟩
abbrev main_call1_call0_call0_v109 : Ref sig .tc := ⟨.hbm, 473, rfl⟩
abbrev main_call1_call0_call0_v110 : Ref sig .tc := ⟨.hbm, 474, rfl⟩
abbrev main_call1_call0_call0_c_28 : Ref sig .tc := ⟨.hbm, 475, rfl⟩
abbrev main_call1_call0_call0_v111 : Ref sig .tc := ⟨.hbm, 476, rfl⟩
abbrev main_call1_call0_call0_v112 : Ref sig .tc := ⟨.hbm, 477, rfl⟩
abbrev main_call1_call0_call0_v113 : Ref sig .tc := ⟨.hbm, 478, rfl⟩
abbrev main_call1_call0_call0_v114 : Ref sig .tc := ⟨.hbm, 479, rfl⟩
abbrev main_call1_call0_call0_v115 : Ref sig .tc := ⟨.hbm, 480, rfl⟩
abbrev main_call1_call0_call0_c_29 : Ref sig .tc := ⟨.hbm, 481, rfl⟩
abbrev main_call1_call0_call0_v116 : Ref sig .tc := ⟨.hbm, 482, rfl⟩
abbrev main_call1_call0_call0_v117 : Ref sig .tc := ⟨.hbm, 483, rfl⟩
abbrev main_call1_call0_call0_c_30 : Ref sig .tc := ⟨.hbm, 484, rfl⟩
abbrev main_call1_call0_call0_v118 : Ref sig .tc := ⟨.hbm, 485, rfl⟩
abbrev main_call1_call0_call0_v119 : Ref sig .tc := ⟨.hbm, 486, rfl⟩
abbrev main_call1_call0_call0_v120 : Ref sig .tc := ⟨.hbm, 487, rfl⟩
abbrev main_call1_call0_call0_v121 : Ref sig .tc := ⟨.hbm, 488, rfl⟩
abbrev main_call1_call0_call0_v122 : Ref sig .tc := ⟨.hbm, 489, rfl⟩
abbrev main_call1_call0_call0_c_31 : Ref sig .tc := ⟨.hbm, 490, rfl⟩
abbrev main_call1_call0_call0_v123 : Ref sig .tc := ⟨.hbm, 491, rfl⟩
abbrev main_call1_call0_call0_v124 : Ref sig .tc := ⟨.hbm, 492, rfl⟩
abbrev main_call1_call0_call0_c_32 : Ref sig .tc := ⟨.hbm, 493, rfl⟩
abbrev main_call1_call0_call0_v125 : Ref sig .tc := ⟨.hbm, 494, rfl⟩
abbrev main_call1_call0_call0_v126 : Ref sig .tc := ⟨.hbm, 495, rfl⟩
abbrev main_call1_call0_call0_v127 : Ref sig .tc := ⟨.hbm, 496, rfl⟩
abbrev main_call1_call0_call0_v128 : Ref sig .tc := ⟨.hbm, 497, rfl⟩
abbrev main_call1_call0_call0_v129 : Ref sig .tc := ⟨.hbm, 498, rfl⟩
abbrev main_call1_call0_call0_c_33 : Ref sig .tc := ⟨.hbm, 499, rfl⟩
abbrev main_call1_call0_call0_v130 : Ref sig .tc := ⟨.hbm, 500, rfl⟩
abbrev main_call1_call0_call0_v131 : Ref sig .tc := ⟨.hbm, 501, rfl⟩
abbrev main_call1_call0_call0_c_34 : Ref sig .tc := ⟨.hbm, 502, rfl⟩
abbrev main_call1_call0_call0_v132 : Ref sig .tc := ⟨.hbm, 503, rfl⟩
abbrev main_call1_call0_call0_v133 : Ref sig .tc := ⟨.hbm, 504, rfl⟩
abbrev main_call1_call0_call0_v134 : Ref sig .tc := ⟨.hbm, 505, rfl⟩
abbrev main_call1_call0_call0_v135 : Ref sig .tc := ⟨.hbm, 506, rfl⟩
abbrev main_call1_call0_call0_v136 : Ref sig .tc := ⟨.hbm, 507, rfl⟩
abbrev main_call1_call0_call0_v137 : Ref sig .tc := ⟨.hbm, 508, rfl⟩
abbrev main_call1_call0_call0_v138 : Ref sig .tc := ⟨.hbm, 509, rfl⟩
abbrev main_call1_call0_call0_v139 : Ref sig .tc := ⟨.hbm, 510, rfl⟩
abbrev main_call1_call0_call0_c_35 : Ref sig .tc := ⟨.hbm, 511, rfl⟩
abbrev main_call1_call0_call0_v140 : Ref sig .tc := ⟨.hbm, 512, rfl⟩
abbrev main_call1_call0_call0_v141 : Ref sig .tc := ⟨.hbm, 513, rfl⟩
abbrev main_call1_call0_call0_v142 : Ref sig .tc := ⟨.hbm, 514, rfl⟩
abbrev main_call1_call0_call0_c_36 : Ref sig .tc := ⟨.hbm, 515, rfl⟩
abbrev main_call1_call0_call0_v143 : Ref sig .tc := ⟨.hbm, 516, rfl⟩
abbrev main_call1_call0_call0_v144 : Ref sig .tc := ⟨.hbm, 517, rfl⟩
abbrev main_call1_call0_call0_c_37 : Ref sig .tc := ⟨.hbm, 518, rfl⟩
abbrev main_call1_call0_call0_v145 : Ref sig .tc := ⟨.hbm, 519, rfl⟩
abbrev main_call1_call0_call0_v146 : Ref sig .tc := ⟨.hbm, 520, rfl⟩
abbrev main_call1_call0_call0_v147 : Ref sig .tc := ⟨.hbm, 521, rfl⟩
abbrev main_call1_call0_call0_v148 : Ref sig .tc := ⟨.hbm, 522, rfl⟩
abbrev main_call1_call0_call0_v149 : Ref sig .tc := ⟨.hbm, 523, rfl⟩
abbrev main_call1_call0_call0_c_38 : Ref sig .tc := ⟨.hbm, 524, rfl⟩
abbrev main_call1_call0_call0_v150 : Ref sig .tc := ⟨.hbm, 525, rfl⟩
abbrev main_call1_call0_call0_v151 : Ref sig .tc := ⟨.hbm, 526, rfl⟩
abbrev main_call1_call0_call0_c_39 : Ref sig .tc := ⟨.hbm, 527, rfl⟩
abbrev main_call1_call0_call0_v152 : Ref sig .tc := ⟨.hbm, 528, rfl⟩
abbrev main_call1_call0_call0_v153 : Ref sig .tc := ⟨.hbm, 529, rfl⟩
abbrev main_call1_call0_call0_v154 : Ref sig .tc := ⟨.hbm, 530, rfl⟩
abbrev main_call1_call0_call0_v155 : Ref sig .tc := ⟨.hbm, 531, rfl⟩
abbrev main_call1_call0_call0_v156 : Ref sig .tc := ⟨.hbm, 532, rfl⟩
abbrev main_call1_call0_call0_c_40 : Ref sig .tc := ⟨.hbm, 533, rfl⟩
abbrev main_call1_call0_call0_v157 : Ref sig .tc := ⟨.hbm, 534, rfl⟩
abbrev main_call1_call0_call0_v158 : Ref sig .tc := ⟨.hbm, 535, rfl⟩
abbrev main_call1_call0_call0_c_41 : Ref sig .tc := ⟨.hbm, 536, rfl⟩
abbrev main_call1_call0_call0_v159 : Ref sig .tc := ⟨.hbm, 537, rfl⟩
abbrev main_call1_call0_call0_v160 : Ref sig .tc := ⟨.hbm, 538, rfl⟩
abbrev main_call1_call0_call0_v161 : Ref sig .tc := ⟨.hbm, 539, rfl⟩
abbrev main_call1_call0_call0_v162 : Ref sig .tc := ⟨.hbm, 540, rfl⟩
abbrev main_call1_call0_call0_v163 : Ref sig .tc := ⟨.hbm, 541, rfl⟩
abbrev main_call1_call0_call0_c_42 : Ref sig .tc := ⟨.hbm, 542, rfl⟩
abbrev main_call1_call0_call0_v164 : Ref sig .tc := ⟨.hbm, 543, rfl⟩
abbrev main_call1_call0_call0_v165 : Ref sig .tc := ⟨.hbm, 544, rfl⟩
abbrev main_call1_call0_call0_c_43 : Ref sig .tc := ⟨.hbm, 545, rfl⟩
abbrev main_call1_call0_call0_v166 : Ref sig .tc := ⟨.hbm, 546, rfl⟩
abbrev main_call1_call0_call0_v167 : Ref sig .tc := ⟨.hbm, 547, rfl⟩
abbrev main_call1_call0_call0_v168 : Ref sig .tc := ⟨.hbm, 548, rfl⟩
abbrev main_call1_call0_call0_v169 : Ref sig .tc := ⟨.hbm, 549, rfl⟩
abbrev main_call1_call0_call0_v170 : Ref sig .tc := ⟨.hbm, 550, rfl⟩
abbrev main_call1_call0_v18_0 : Ref sig .tc := ⟨.hbm, 551, rfl⟩
abbrev main_call1_call0_call0_v172 : Ref sig .tc := ⟨.hbm, 552, rfl⟩
abbrev main_call1_call0_call0_v173 : Ref sig .tc := ⟨.hbm, 553, rfl⟩
abbrev main_call1_call0_call0_c_44 : Ref sig .tc := ⟨.hbm, 554, rfl⟩
abbrev main_call1_call0_call0_v174 : Ref sig .tc := ⟨.hbm, 555, rfl⟩
abbrev main_call1_call0_v18_1 : Ref sig .tc := ⟨.hbm, 556, rfl⟩
abbrev main_call1_call0_v19 : Ref sig .tc := ⟨.hbm, 557, rfl⟩
abbrev main_call1_call0_c_2 : Ref sig .tc := ⟨.hbm, 558, rfl⟩
abbrev main_call1_call0_v20 : Ref sig .tc := ⟨.hbm, 559, rfl⟩
abbrev main_call1_call0_v21 : Ref sig .tc := ⟨.hbm, 560, rfl⟩
abbrev main_call1_call0_c_3 : Ref sig .tc := ⟨.hbm, 561, rfl⟩
abbrev main_call1_call0_v22 : Ref sig .tc := ⟨.hbm, 562, rfl⟩
abbrev main_call1_call0_v23 : Ref sig .tc := ⟨.hbm, 563, rfl⟩
abbrev main_call1_call0_v24 : Ref sig .tc := ⟨.hbm, 564, rfl⟩
abbrev main_call1_call0_cst : Ref sig .tc := ⟨.hbm, 565, rfl⟩
abbrev main_call1_call0_v25 : Ref sig .tc := ⟨.hbm, 566, rfl⟩
abbrev main_call1_call0_v26 : Ref sig .tc := ⟨.hbm, 567, rfl⟩
abbrev main_call1_call0_v27 : Ref sig .tc := ⟨.hbm, 568, rfl⟩
abbrev main_call1_call0_v28 : Ref sig .tc := ⟨.hbm, 569, rfl⟩
abbrev main_call1_call0_v29 : Ref sig .tc := ⟨.hbm, 570, rfl⟩
abbrev main_call1_call0_v30 : Ref sig .tc := ⟨.hbm, 571, rfl⟩
abbrev main_call1_call0_v31 : Ref sig .tc := ⟨.hbm, 572, rfl⟩
abbrev main_call1_call0_v32 : Ref sig .tc := ⟨.hbm, 573, rfl⟩
abbrev main_call1_v0 : Ref sig .tc := ⟨.hbm, 574, rfl⟩
abbrev main_call1_v1 : Ref sig .tc := ⟨.hbm, 575, rfl⟩
abbrev main_call1_v2 : Ref sig .tc := ⟨.hbm, 576, rfl⟩
abbrev main_call1_v3 : Ref sig .tc := ⟨.hbm, 577, rfl⟩
abbrev main_v47 : Ref sig .tc := ⟨.hbm, 578, rfl⟩
abbrev main_v48 : Ref sig .tc := ⟨.hbm, 579, rfl⟩
abbrev main_call2_v0 : Ref sig .tc := ⟨.hbm, 580, rfl⟩
abbrev main_call2_cst : Ref sig .tc := ⟨.hbm, 581, rfl⟩
abbrev main_call2_c : Ref sig .tc := ⟨.hbm, 582, rfl⟩
abbrev main_call2_v1_0 : Ref sig .tc := ⟨.hbm, 583, rfl⟩
abbrev main_v49 : Ref sig .tc := ⟨.hbm, 584, rfl⟩
abbrev main_c_11 : Ref sig .tc := ⟨.hbm, 585, rfl⟩
abbrev main_v50 : Ref sig .tc := ⟨.hbm, 586, rfl⟩
abbrev main_v51 : Ref sig .tc := ⟨.hbm, 587, rfl⟩
abbrev main_v52 : Ref sig .tc := ⟨.hbm, 588, rfl⟩
abbrev main_v53 : Ref sig .tc := ⟨.hbm, 589, rfl⟩
abbrev main_v54 : Ref sig .tc := ⟨.hbm, 590, rfl⟩

abbrev nD : Nat := 1
abbrev τ : Topo := Topo.v7x

variable {F : FTy → Type} [FloatOps F]
-- ==== Proof.Line.lean ====
/-
  Straight lines of host operations in which every buffer is written once, before it is read.

  Such a line ends in a state that satisfies one equation per operation: the buffer that the operation
  writes holds the operation's function of what the buffers that it reads hold — all of them read at the
  END. So a value is followed through hundreds of operations by equations between the final contents of
  named buffers, and no composed term is ever built.
-/
module

public import Idealize.ShloMosaic.Lib.StableHlo.RunHlo

@[expose] public section

noncomputable section

namespace Cert.Stop

open Idealize.ShloMosaic Idealize.ShloMosaic.StableHlo Idealize.SL.Sem

variable {τ : Topo} {sig : RefSig} {Val : EltTy → Type}

/-- What the typed reference `x` holds in the contents `W`, at the type of its value. -/
def val {T : BufTy} (W : Valuation τ sig Val) (x : TRef sig T) : T.Contents Val := x.ofBuf (W (Proc.devRef .tc x.ref))

/-- A host operation over typed references, by the number of buffers that it reads. -/
inductive Cmd (sig : RefSig) (Val : EltTy → Type) where
  | nul {T : BufTy} (y : TRef sig T) (v : T.Contents Val)
  | un {S T : BufTy} (x : TRef sig S) (y : TRef sig T) (f : S.Contents Val → T.Contents Val)
  | bin {R S T : BufTy} (a : TRef sig R) (b : TRef sig S) (y : TRef sig T)
      (f : R.Contents Val → S.Contents Val → T.Contents Val)
  | quat {P Q R S T : BufTy} (a : TRef sig P) (b : TRef sig Q) (c : TRef sig R) (e : TRef sig S) (y : TRef sig T)
      (f : P.Contents Val → Q.Contents Val → R.Contents Val → S.Contents Val → T.Contents Val)
  | resh {S T : BufTy} (x : TRef sig S) (y : TRef sig T) (he : S.elt = T.elt) (hn : S.shape.ShapeCasts T.shape)

namespace Cmd

/-- The operation. -/
def op : Cmd sig Val → HloOp τ sig Val
  | nul y v => y.nullary v
  | un x y f => x.unary y f
  | bin a b y f => a.binary b y f
  | quat a b c e y f => a.quaternary b c e y f
  | resh x y he hn => x.reshape y he hn

/-- The buffer that it writes. -/
def out : Cmd sig Val → Ref sig .tc
  | nul y _ => y.ref
  | un _ y _ => y.ref
  | bin _ _ y _ => y.ref
  | quat _ _ _ _ y _ => y.ref
  | resh _ y _ _ => y.ref

/-- The buffers that it reads. -/
def ins : Cmd sig Val → List (Ref sig .tc)
  | nul _ _ => []
  | un x _ _ => [x.ref]
  | bin a b _ _ => [a.ref, b.ref]
  | quat a b c e _ _ => [a.ref, b.ref, c.ref, e.ref]
  | resh x _ _ _ => [x.ref]

/-- In the contents `W` the operation's result buffer holds its function of its operands' buffers. -/
def Holds (W : Valuation τ sig Val) : Cmd sig Val → Prop
  | nul y v => val W y = v
  | un x y f => val W y = f (val W x)
  | bin a b y f => val W y = f (val W a) (val W b)
  | quat a b c e y f => val W y = f (val W a) (val W b) (val W c) (val W e)
  | resh (T := T) x y he hn => val W y = fun i => he ▸ shapeCast T.shape (val W x) hn i

theorem op_writes (c : Cmd sig Val) : (c.op : HloOp τ sig Val).writes = {Proc.devRef .tc c.out} := by
  cases c <;> rfl

theorem op_fresh (c : Cmd sig Val) : (c.op : HloOp τ sig Val).fresh = ∅ := by
  cases c <;> rfl

theorem op_bufs (c : Cmd sig Val) : (c.op : HloOp τ sig Val).bufs ⊆ tcRefs τ sig := by
  cases c <;>
    simp only [op, TRef.nullary, TRef.unary, TRef.binary, TRef.quaternary, TRef.reshape, nullary_bufs_sub, unary_bufs_sub,
      binary_bufs_sub, quaternary_bufs_sub, reshape_bufs_sub]

/-- An operation leaves every other buffer as it was. -/
theorem result_ne (c : Cmd sig Val) (V : Valuation τ sig Val) {r : Ref sig .tc} (h : r ≠ c.out) :
    (c.op : HloOp τ sig Val).result V (Proc.devRef .tc r) = V (Proc.devRef .tc r) :=
  result_of_writes_ne _ V c.out r c.op_writes h

/-- Contents that agree with `V` on what the operation reads, and hold at its result buffer what the operation
    leaves there from `V`, satisfy the operation's equation. -/
theorem holds_of (c : Cmd sig Val) (V W : Valuation τ sig Val)
    (hin : ∀ r ∈ c.ins, W (Proc.devRef .tc r) = V (Proc.devRef .tc r))
    (hout : W (Proc.devRef .tc c.out) = (c.op : HloOp τ sig Val).result V (Proc.devRef .tc c.out)) : c.Holds W := by
  cases c with
  | nul y v =>
    obtain ⟨y, rfl, dy, uy⟩ := y
    exact hout.trans (nullary_result y v ⟨dy, uy⟩ V)
  | un x y f =>
    obtain ⟨y, rfl, dy, uy⟩ := y
    obtain ⟨x, rfl, dx, ux⟩ := x
    exact (hout.trans (unary_result x y f ⟨dx, ux⟩ ⟨dy, uy⟩ V)).trans (congrArg f (hin _ (by simp [ins])).symm)
  | bin a b y f =>
    obtain ⟨y, rfl, dy, uy⟩ := y
    obtain ⟨a, rfl, da, ua⟩ := a
    obtain ⟨b, rfl, db, ub⟩ := b
    exact (hout.trans (binary_result a b y f ⟨da, ua⟩ ⟨db, ub⟩ ⟨dy, uy⟩ V)).trans
      (congrArg₂ f (hin _ (by simp [ins])).symm (hin _ (by simp [ins])).symm)
  | quat a b c e y f =>
    obtain ⟨y, rfl, dy, uy⟩ := y
    obtain ⟨a, rfl, da, ua⟩ := a
    obtain ⟨b, rfl, db, ub⟩ := b
    obtain ⟨c, rfl, dc, uc⟩ := c
    obtain ⟨e, rfl, de, ue⟩ := e
    refine (hout.trans (quaternary_result a b c e y f ⟨da, ua⟩ ⟨db, ub⟩ ⟨dc, uc⟩ ⟨de, ue⟩ ⟨dy, uy⟩ V)).trans ?_
    have ha := hin a (by simp [ins])
    have hb := hin b (by simp [ins])
    have hc := hin c (by simp [ins])
    have he := hin e (by simp [ins])
    show f (V (Proc.devRef .tc a)) (V (Proc.devRef .tc b)) (V (Proc.devRef .tc c)) (V (Proc.devRef .tc e))
      = f (W (Proc.devRef .tc a)) (W (Proc.devRef .tc b)) (W (Proc.devRef .tc c)) (W (Proc.devRef .tc e))
    rw [ha, hb, hc, he]
  | resh x y he hn =>
    obtain ⟨y, rfl, dy, uy⟩ := y
    obtain ⟨x, rfl, dx, ux⟩ := x
    refine (hout.trans (reshape_result x y he hn ⟨dx, ux⟩ ⟨dy, uy⟩ V)).trans ?_
    have hx := hin x (by simp [ins])
    show (fun i => he ▸ shapeCast _ (V (Proc.devRef .tc x)) hn i) = fun i => he ▸ shapeCast _ (W (Proc.devRef .tc x)) hn i
    rw [hx]

end Cmd

/-- A buffer's number among those of its memory space. -/
def rank (r : Ref sig .tc) : ℕ := r.idx.val

/-- The buffers that the line writes have increasing numbers, the first at least `n`, and each operation reads
    buffers of smaller numbers than the one it writes. -/
def ranked : ℕ → List (Cmd sig Val) → Bool
  | _, [] => true
  | n, c :: cs => (Nat.ble n (rank c.out) && c.ins.all fun r => Nat.blt (rank r) (rank c.out)) && ranked (rank c.out + 1) cs

theorem ranked_cons {n : ℕ} {c : Cmd sig Val} {cs : List (Cmd sig Val)} (h : ranked n (c :: cs) = true) :
    n ≤ rank c.out ∧ (∀ r ∈ c.ins, rank r < rank c.out) ∧ ranked (rank c.out + 1) cs = true := by
  simp only [ranked, Bool.and_eq_true, List.all_eq_true, Nat.ble_eq, Nat.blt_eq] at h
  exact ⟨h.1.1, h.1.2, h.2⟩

/-- The line's contents after it, from contents `V`. -/
def run (cs : List (Cmd sig Val)) (V : Valuation τ sig Val) : Valuation τ sig Val := after (cs.map Cmd.op) V

/-- A buffer of a number below all that the line writes keeps its contents. -/
theorem run_below {r : Ref sig .tc} : ∀ {n : ℕ} {cs : List (Cmd sig Val)} (V : Valuation τ sig Val),
    ranked n cs = true → rank r < n → run cs V (Proc.devRef .tc r) = V (Proc.devRef .tc r)
  | _, [], _, _, _ => rfl
  | n, c :: cs, V, h, hr => by
    obtain ⟨h1, -, h3⟩ := ranked_cons h
    have hne : r ≠ c.out := fun e => by rw [e] at hr; omega
    exact (run_below (c.op.result V) h3 (by omega)).trans (c.result_ne V hne)

/-- The line's final contents satisfy every operation's equation. -/
theorem run_holds : ∀ {n : ℕ} {cs : List (Cmd sig Val)} (V : Valuation τ sig Val),
    ranked n cs = true → cs.Forall (Cmd.Holds (run cs V))
  | _, [], _, _ => trivial
  | n, c :: cs, V, h => by
    obtain ⟨h1, h2, h3⟩ := ranked_cons h
    refine (List.forall_cons _ _ _).mpr ⟨c.holds_of V _ (fun r hr => ?_) ?_, run_holds (c.op.result V) h3⟩
    · have hlt := h2 r hr
      have hne : r ≠ c.out := fun e => by rw [e] at hlt; omega
      exact (run_below (c.op.result V) h3 (by omega)).trans (c.result_ne V hne)
    · exact run_below (c.op.result V) h3 (by omega)

/-- Of a line's equations, those of its two halves. -/
theorem forall_append {p : Cmd sig Val → Prop} {l₁ l₂ : List (Cmd sig Val)} (h : (l₁ ++ l₂).Forall p) :
    l₁.Forall p ∧ l₂.Forall p := by
  rw [List.forall_iff_forall_mem] at h
  exact ⟨List.forall_iff_forall_mem.mpr fun c hc => h c (List.mem_append_left _ hc),
    List.forall_iff_forall_mem.mpr fun c hc => h c (List.mem_append_right _ hc)⟩

variable {nD : Nat} {Λ : Labels}

/-- The program `p` is the line `cs`. -/
def IsLine (p : Prog (TpuEff nD τ sig Val Λ .tc) PUnit) (cs : List (Cmd sig Val)) : Prop := p = seq (cs.map Cmd.op)

/-- One program run after another is their lines joined. -/
theorem IsLine.append {p q : Prog (TpuEff nD τ sig Val Λ .tc) PUnit} {cs ds : List (Cmd sig Val)}
    (hp : IsLine p cs) (hq : IsLine q ds) : IsLine (p >>= fun _ => q) (cs ++ ds) := by
  unfold IsLine at hp hq ⊢
  rw [List.map_append, seq_append, hp, hq]

/-- A ranked line of host operations, on a signature that scopes nothing, runs; it ends with every buffer at the
    line's final contents. -/
theorem run_line (defs : Defs nD τ sig Val Λ) (main : Dev nD → Prog (TpuEff nD τ sig Val Λ .tc) PUnit)
    {cs : List (Cmd sig Val)} (hmain : ∀ d, IsLine (main d) cs)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ (d : Dev nD) (b : Ref sig .tc),
        r.2.mem ((d.tc : Thread nD τ).loc b) = run cs (launchContents m d) (Proc.devRef .tc b) :=
  run_hlo defs main (ops := cs.map Cmd.op) hmain hR hC
    (List.forall_iff_forall_mem.mpr fun o ho => by
      obtain ⟨c, -, rfl⟩ := List.mem_map.mp ho; exact c.op_bufs)
    (fun o ho => by obtain ⟨c, -, rfl⟩ := List.mem_map.mp ho; exact c.op_fresh) m ρ

end Cert.Stop

end

end
-- ==== Proof.Threefry.lean ====
/-
  The counter-based random words: the function of two 32-bit words, under a two-word key, that both programs
  compute (twenty rounds of add, rotate and exclusive-or, the key added after every four), as one definition over
  single words.
-/
module

public import Idealize.ShloMosaic.PureOps

@[expose] public section

namespace Cert.Stop

open Idealize.ShloMosaic

/-- `x` shifted left by `l`, joined with `x` shifted right by `r`: a rotation when `l + r = 32`. -/
def rot (l r x : BitVec 32) : BitVec 32 := IntOp.ori (IntOp.shli .host x l) (IntOp.shrui .host x r)

/-- One round. -/
def mix (l r : BitVec 32) (p : BitVec 32 × BitVec 32) : BitVec 32 × BitVec 32 :=
  (IntOp.addi p.1 p.2, IntOp.xori (IntOp.addi p.1 p.2) (rot l r p.2))

/-- The key's words `a` and `b` added, and the count `k` of the additions so far. -/
def inject (a b k : BitVec 32) (p : BitVec 32 × BitVec 32) : BitVec 32 × BitVec 32 :=
  (IntOp.addi p.1 a, IntOp.addi (IntOp.addi p.2 b) k)

/-- Four rounds with the first set of rotations. -/
def roundsA (p : BitVec 32 × BitVec 32) : BitVec 32 × BitVec 32 :=
  mix 6#32 26#32 (mix 26#32 6#32 (mix 15#32 17#32 (mix 13#32 19#32 p)))

/-- Four rounds with the second set of rotations. -/
def roundsB (p : BitVec 32 × BitVec 32) : BitVec 32 × BitVec 32 :=
  mix 24#32 8#32 (mix 16#32 16#32 (mix 29#32 3#32 (mix 17#32 15#32 p)))

/-- The key's third word. -/
def key2 (k0 k1 : BitVec 32) : BitVec 32 := IntOp.xori (IntOp.xori k0 k1) 466688986#32

/-- The two random words of the counter `x0`, `x1` under the key `k0`, `k1`. -/
def threefry (k0 k1 x0 x1 : BitVec 32) : BitVec 32 × BitVec 32 :=
  inject (key2 k0 k1) k0 5#32 (roundsA
    (inject k1 (key2 k0 k1) 4#32 (roundsB
      (inject k0 k1 3#32 (roundsA
        (inject (key2 k0 k1) k0 2#32 (roundsB
          (inject k1 (key2 k0 k1) 1#32 (roundsA (IntOp.addi x0 k0, IntOp.addi x1 k1))))))))))

/-- The subkey under which the actions are drawn, from the seed 42: the first of the two that the split makes. -/
theorem threefry_subkey : threefry 0#32 42#32 0#32 0#32 = (1832780943#32, 270669613#32) := by decide +kernel

/-- The word of one entry: the two words of its counter, under the subkey, joined by exclusive-or. -/
def word (n : BitVec 32) : BitVec 32 :=
  IntOp.xori (threefry 1832780943#32 270669613#32 0#32 n).1 (threefry 1832780943#32 270669613#32 0#32 n).2

end Cert.Stop

end
-- ==== Proof.RefThreefry.lean ====
/-
  The reference's random words: the lines of the two functions that compute them (the same text at two shapes), and
  what they leave.
-/
module

public import proofs.«01_k».proof.Proof.Gen.ReferenceIdeal
public import Idealize.ShloMosaic.PureOps.Ideal
public import proofs.«01_k».proof.Proof.Line
public import proofs.«01_k».proof.Proof.Threefry

@[expose] public section

set_option maxRecDepth 16384

noncomputable section

namespace Cert.Stop

open Idealize.ShloMosaic Idealize.ShloMosaic.StableHlo Idealize.SL.Sem
open Cert.ReferenceIdeal Cert.ReferenceIdeal.Gen

/-- A reference to a tensor of words of shape `S`. -/
abbrev WRef (S : Shape) : Type := TRef sig ⟨S, .i32⟩

/-- The operations of the reference. -/
abbrev RCmd : Type := Cmd sig (Elt Ideal)

/-- The final contents of the reference's buffers. -/
abbrev RVal : Type := Valuation τ sig (Elt Ideal)

/-- What a reference to words holds. -/
def words {S : Shape} (W : RVal) (x : WRef S) : IVec S 32 := val W x

/-- One round, over the buffers of its nine values. -/
def mixLine {S : Shape} (h : S_.BroadcastsInDim S (![] : Fin 0 → Fin S.rank)) (l r : BitVec 32)
    (x0 x1 s : WRef S) (c : WRef S_) (b p : WRef S) (d : WRef S_) (e q o y : WRef S) : List RCmd :=
  [.bin x0 x1 s addi, .nul c (constantI S_ 32 l), .un c b (broadcastInDim S ![] h), .bin x1 b p Host.shli,
   .nul d (constantI S_ 32 r), .un d e (broadcastInDim S ![] h), .bin x1 e q Host.shrui, .bin p q o ori, .bin s o y xori]

/-- The key's words `a` and `b` and the count `k` added, over the buffers of the seven values. -/
def injectLine {S : Shape} (h : S_.BroadcastsInDim S (![] : Fin 0 → Fin S.rank)) (k : BitVec 32)
    (a b : WRef S_) (x0 x1 u y0 w m : WRef S) (c : WRef S_) (z y1 : WRef S) : List RCmd :=
  [.un a u (broadcastInDim S ![] h), .bin x0 u y0 addi, .un b w (broadcastInDim S ![] h), .bin x1 w m addi,
   .nul c (constantI S_ 32 k), .un c z (broadcastInDim S ![] h), .bin m z y1 addi]

/-- The key's third word, and the key's first addition to the counter. -/
def startLine {S : Shape} (h : S_.BroadcastsInDim S (![] : Fin 0 → Fin S.rank)) (a b : WRef S_) (x0 x1 : WRef S)
    (t c k : WRef S_) (u y0 w y1 : WRef S) : List RCmd :=
  [.bin a b t xori, .nul c (constantI S_ 32 466688986#32), .bin t c k xori, .un a u (broadcastInDim S ![] h),
   .bin x0 u y0 addi, .un b w (broadcastInDim S ![] h), .bin x1 w y1 addi]

/-- The two words at one entry of a pair of tensors. -/
def pairAt {S : Shape} (W : RVal) (x y : WRef S) (i : S.Idx) : BitVec 32 × BitVec 32 := (words W x i, words W y i)

/-- The one word of a tensor of one. -/
def wordOf (W : RVal) (x : WRef S_) : BitVec 32 := words W x (fun i => i.elim0)

theorem words_scalar (W : RVal) (x : WRef S_) (k : S_.Idx) : words W x k = wordOf W x :=
  congrArg (words W x) (funext fun i => i.elim0)

section
variable {S : Shape} {W : RVal} {h : S_.BroadcastsInDim S (![] : Fin 0 → Fin S.rank)}

/-- After the lines of a round its two buffers hold, entry by entry, the round of the two before. -/
theorem mixLine_value {l r : BitVec 32} {x0 x1 s b p e q o y : WRef S} {c d : WRef S_}
    (H : (mixLine h l r x0 x1 s c b p d e q o y).Forall (Cmd.Holds W)) (i : S.Idx) :
    pairAt W s y i = mix l r (pairAt W x0 x1 i) := by
  simp only [mixLine, List.Forall, Cmd.Holds] at H
  obtain ⟨h1, h2, h3, h4, h5, h6, h7, h8, h9⟩ := H
  simp only [pairAt, words, h9, h8, h7, h6, h5, h4, h3, h2, h1]
  rfl

/-- After the lines that add the key, likewise. -/
theorem injectLine_value {k : BitVec 32} {a b : WRef S_} {x0 x1 u y0 w m z y1 : WRef S} {c : WRef S_}
    (H : (injectLine h k a b x0 x1 u y0 w m c z y1).Forall (Cmd.Holds W)) (i : S.Idx) :
    pairAt W y0 y1 i = inject (wordOf W a) (wordOf W b) k (pairAt W x0 x1 i) := by
  simp only [injectLine, List.Forall, Cmd.Holds] at H
  obtain ⟨h1, h2, h3, h4, h5, h6, h7⟩ := H
  simp only [pairAt, words, h7, h6, h5, h4, h3, h2, h1]
  refine Prod.ext ?_ ?_
  · exact congrArg (IntOp.addi _) (congrArg (words W a) (funext fun j => j.elim0))
  · exact congrArg (fun v => IntOp.addi (IntOp.addi (words W x1 i) v) k) (congrArg (words W b) (funext fun j => j.elim0))

/-- After the first lines the third word is the key's, and the key has been added. -/
theorem startLine_value {a b t c k : WRef S_} {x0 x1 u y0 w y1 : WRef S}
    (H : (startLine h a b x0 x1 t c k u y0 w y1).Forall (Cmd.Holds W)) :
    wordOf W k = key2 (wordOf W a) (wordOf W b) ∧ ∀ i, pairAt W y0 y1 i =
      (IntOp.addi (words W x0 i) (wordOf W a), IntOp.addi (words W x1 i) (wordOf W b)) := by
  simp only [startLine, List.Forall, Cmd.Holds] at H
  obtain ⟨h1, h2, h3, h4, h5, h6, h7⟩ := H
  refine ⟨?_, fun i => ?_⟩
  · simp only [wordOf, words, h3, h2, h1]; rfl
  · simp only [pairAt, words, h7, h6, h5, h4]
    refine Prod.ext ?_ ?_
    · exact congrArg (IntOp.addi _) (congrArg (words W a) (funext fun j => j.elim0))
    · exact congrArg (IntOp.addi _) (congrArg (words W b) (funext fun j => j.elim0))

end

/-- All the lines of the function: its arguments, its value buffers `v` and its constants' `c` by number. -/
def tfLine {S : Shape} (h : S_.BroadcastsInDim S (![] : Fin 0 → Fin S.rank)) (a b : WRef S_) (x0 x1 : WRef S)
    (t c k : WRef S_) (v : ℕ → WRef S) (e : ℕ → WRef S_) : List RCmd :=
  startLine h a b x0 x1 t c k (v 2) (v 3) (v 4) (v 5) ++ (
  mixLine h 13#32 19#32 (v 3) (v 5) (v 6) (e 0) (v 7) (v 8) (e 1) (v 9) (v 10) (v 11) (v 12) ++ (
  mixLine h 15#32 17#32 (v 6) (v 12) (v 13) (e 2) (v 14) (v 15) (e 3) (v 16) (v 17) (v 18) (v 19) ++ (
  mixLine h 26#32 6#32 (v 13) (v 19) (v 20) (e 4) (v 21) (v 22) (e 5) (v 23) (v 24) (v 25) (v 26) ++ (
  mixLine h 6#32 26#32 (v 20) (v 26) (v 27) (e 6) (v 28) (v 29) (e 7) (v 30) (v 31) (v 32) (v 33) ++ (
  injectLine h 1#32 b k (v 27) (v 33) (v 34) (v 35) (v 36) (v 37) (e 8) (v 38) (v 39) ++ (
  mixLine h 17#32 15#32 (v 35) (v 39) (v 40) (e 9) (v 41) (v 42) (e 10) (v 43) (v 44) (v 45) (v 46) ++ (
  mixLine h 29#32 3#32 (v 40) (v 46) (v 47) (e 11) (v 48) (v 49) (e 12) (v 50) (v 51) (v 52) (v 53) ++ (
  mixLine h 16#32 16#32 (v 47) (v 53) (v 54) (e 13) (v 55) (v 56) (e 14) (v 57) (v 58) (v 59) (v 60) ++ (
  mixLine h 24#32 8#32 (v 54) (v 60) (v 61) (e 15) (v 62) (v 63) (e 16) (v 64) (v 65) (v 66) (v 67) ++ (
  injectLine h 2#32 k a (v 61) (v 67) (v 68) (v 69) (v 70) (v 71) (e 17) (v 72) (v 73) ++ (
  mixLine h 13#32 19#32 (v 69) (v 73) (v 74) (e 18) (v 75) (v 76) (e 19) (v 77) (v 78) (v 79) (v 80) ++ (
  mixLine h 15#32 17#32 (v 74) (v 80) (v 81) (e 20) (v 82) (v 83) (e 21) (v 84) (v 85) (v 86) (v 87) ++ (
  mixLine h 26#32 6#32 (v 81) (v 87) (v 88) (e 22) (v 89) (v 90) (e 23) (v 91) (v 92) (v 93) (v 94) ++ (
  mixLine h 6#32 26#32 (v 88) (v 94) (v 95) (e 24) (v 96) (v 97) (e 25) (v 98) (v 99) (v 100) (v 101) ++ (
  injectLine h 3#32 a b (v 95) (v 101) (v 102) (v 103) (v 104) (v 105) (e 26) (v 106) (v 107) ++ (
  mixLine h 17#32 15#32 (v 103) (v 107) (v 108) (e 27) (v 109) (v 110) (e 28) (v 111) (v 112) (v 113) (v 114) ++ (
  mixLine h 29#32 3#32 (v 108) (v 114) (v 115) (e 29) (v 116) (v 117) (e 30) (v 118) (v 119) (v 120) (v 121) ++ (
  mixLine h 16#32 16#32 (v 115) (v 121) (v 122) (e 31) (v 123) (v 124) (e 32) (v 125) (v 126) (v 127) (v 128) ++ (
  mixLine h 24#32 8#32 (v 122) (v 128) (v 129) (e 33) (v 130) (v 131) (e 34) (v 132) (v 133) (v 134) (v 135) ++ (
  injectLine h 4#32 b k (v 129) (v 135) (v 136) (v 137) (v 138) (v 139) (e 35) (v 140) (v 141) ++ (
  mixLine h 13#32 19#32 (v 137) (v 141) (v 142) (e 36) (v 143) (v 144) (e 37) (v 145) (v 146) (v 147) (v 148) ++ (
  mixLine h 15#32 17#32 (v 142) (v 148) (v 149) (e 38) (v 150) (v 151) (e 39) (v 152) (v 153) (v 154) (v 155) ++ (
  mixLine h 26#32 6#32 (v 149) (v 155) (v 156) (e 40) (v 157) (v 158) (e 41) (v 159) (v 160) (v 161) (v 162) ++ (
  mixLine h 6#32 26#32 (v 156) (v 162) (v 163) (e 42) (v 164) (v 165) (e 43) (v 166) (v 167) (v 168) (v 169) ++ (
  injectLine h 5#32 k a (v 163) (v 169) (v 170) (v 171) (v 172) (v 173) (e 44) (v 174) (v 175))))))))))))))))))))))))))

/-- What the function's lines leave: the two random words of every counter. -/
theorem tfLine_value {S : Shape} {W : RVal} {h : S_.BroadcastsInDim S (![] : Fin 0 → Fin S.rank)} {a b t c k : WRef S_}
    {x0 x1 : WRef S} {v : ℕ → WRef S} {e : ℕ → WRef S_} (H : (tfLine h a b x0 x1 t c k v e).Forall (Cmd.Holds W))
    (i : S.Idx) :
    pairAt W (v 171) (v 175) i = threefry (wordOf W a) (wordOf W b) (words W x0 i) (words W x1 i) := by
  unfold tfLine at H
  obtain ⟨H0, H⟩ := forall_append H; obtain ⟨a1, H⟩ := forall_append H; obtain ⟨a2, H⟩ := forall_append H; obtain ⟨a3, H⟩ := forall_append H; obtain ⟨a4, H⟩ := forall_append H
  obtain ⟨i1, H⟩ := forall_append H; obtain ⟨b1, H⟩ := forall_append H; obtain ⟨b2, H⟩ := forall_append H; obtain ⟨b3, H⟩ := forall_append H; obtain ⟨b4, H⟩ := forall_append H
  obtain ⟨i2, H⟩ := forall_append H; obtain ⟨c1, H⟩ := forall_append H; obtain ⟨c2, H⟩ := forall_append H; obtain ⟨c3, H⟩ := forall_append H; obtain ⟨c4, H⟩ := forall_append H
  obtain ⟨i3, H⟩ := forall_append H; obtain ⟨d1, H⟩ := forall_append H; obtain ⟨d2, H⟩ := forall_append H; obtain ⟨d3, H⟩ := forall_append H; obtain ⟨d4, H⟩ := forall_append H
  obtain ⟨i4, H⟩ := forall_append H; obtain ⟨e1, H⟩ := forall_append H; obtain ⟨e2, H⟩ := forall_append H; obtain ⟨e3, H⟩ := forall_append H; obtain ⟨e4, i5⟩ := forall_append H
  obtain ⟨hk, hs⟩ := startLine_value H0
  rw [injectLine_value i5, mixLine_value e4, mixLine_value e3, mixLine_value e2, mixLine_value e1,
    injectLine_value i4, mixLine_value d4, mixLine_value d3, mixLine_value d2, mixLine_value d1,
    injectLine_value i3, mixLine_value c4, mixLine_value c3, mixLine_value c2, mixLine_value c1,
    injectLine_value i2, mixLine_value b4, mixLine_value b3, mixLine_value b2, mixLine_value b1,
    injectLine_value i1, mixLine_value a4, mixLine_value a3, mixLine_value a2, mixLine_value a1, hs, hk]
  simp only [threefry, roundsA, roundsB]

end Cert.Stop

end

end
-- ==== Proof.RefLine.lean ====
/-
  The reference's program as one line of host operations: each function's body, then the main program's.
-/
module

public import proofs.«01_k».proof.Proof.RefThreefry

@[expose] public section

set_option maxRecDepth 16384

noncomputable section

namespace Cert.Stop

open Idealize.ShloMosaic Idealize.ShloMosaic.StableHlo Idealize.SL.Sem
open Cert.ReferenceIdeal
open Facts₀ Facts

/-- A line is its parts of sixty operations, one after another. -/
theorem parts {α : Type} (n : ℕ) (l : List α) : l = l.take n ++ l.drop n := (List.take_append_drop n l).symm

/-- The value buffers of a call of the random words' function at shape `S2`, by number. -/
def fewV (φ : fn_threefry2x32.Bufs) (n : ℕ) : WRef S2 :=
  ([φ.v2, φ.v3, φ.v4, φ.v5, φ.v6, φ.v7, φ.v8, φ.v9, φ.v10, φ.v11, φ.v12, φ.v13, φ.v14, φ.v15, φ.v16, φ.v17,
   φ.v18, φ.v19, φ.v20, φ.v21, φ.v22, φ.v23, φ.v24, φ.v25, φ.v26, φ.v27, φ.v28, φ.v29, φ.v30, φ.v31, φ.v32,
   φ.v33, φ.v34, φ.v35, φ.v36, φ.v37, φ.v38, φ.v39, φ.v40, φ.v41, φ.v42, φ.v43, φ.v44, φ.v45, φ.v46, φ.v47,
   φ.v48, φ.v49, φ.v50, φ.v51, φ.v52, φ.v53, φ.v54, φ.v55, φ.v56, φ.v57, φ.v58, φ.v59, φ.v60, φ.v61, φ.v62,
   φ.v63, φ.v64, φ.v65, φ.v66, φ.v67, φ.v68, φ.v69, φ.v70, φ.v71, φ.v72, φ.v73, φ.v74, φ.v75, φ.v76, φ.v77,
   φ.v78, φ.v79, φ.v80, φ.v81, φ.v82, φ.v83, φ.v84, φ.v85, φ.v86, φ.v87, φ.v88, φ.v89, φ.v90, φ.v91, φ.v92,
   φ.v93, φ.v94, φ.v95, φ.v96, φ.v97, φ.v98, φ.v99, φ.v100, φ.v101, φ.v102, φ.v103, φ.v104, φ.v105, φ.v106,
   φ.v107, φ.v108, φ.v109, φ.v110, φ.v111, φ.v112, φ.v113, φ.v114, φ.v115, φ.v116, φ.v117, φ.v118, φ.v119,
   φ.v120, φ.v121, φ.v122, φ.v123, φ.v124, φ.v125, φ.v126, φ.v127, φ.v128, φ.v129, φ.v130, φ.v131, φ.v132,
   φ.v133, φ.v134, φ.v135, φ.v136, φ.v137, φ.v138, φ.v139, φ.v140, φ.v141, φ.v142, φ.v143, φ.v144, φ.v145,
   φ.v146, φ.v147, φ.v148, φ.v149, φ.v150, φ.v151, φ.v152, φ.v153, φ.v154, φ.v155, φ.v156, φ.v157, φ.v158,
   φ.v159, φ.v160, φ.v161, φ.v162, φ.v163, φ.v164, φ.v165, φ.v166, φ.v167, φ.v168, φ.v169, φ.v170, φ.v171,
   φ.v172, φ.v173, φ.v174, φ.v175] : List (WRef S2)).getD (n - 2) φ.v2

/-- Its constants' buffers. -/
def fewC (φ : fn_threefry2x32.Bufs) (n : ℕ) : WRef S_ :=
  ([φ.c_0, φ.c_1, φ.c_2, φ.c_3, φ.c_4, φ.c_5, φ.c_6, φ.c_7, φ.c_8, φ.c_9, φ.c_10, φ.c_11, φ.c_12, φ.c_13,
   φ.c_14, φ.c_15, φ.c_16, φ.c_17, φ.c_18, φ.c_19, φ.c_20, φ.c_21, φ.c_22, φ.c_23, φ.c_24, φ.c_25, φ.c_26,
   φ.c_27, φ.c_28, φ.c_29, φ.c_30, φ.c_31, φ.c_32, φ.c_33, φ.c_34, φ.c_35, φ.c_36, φ.c_37, φ.c_38, φ.c_39,
   φ.c_40, φ.c_41, φ.c_42, φ.c_43, φ.c_44] : List (WRef S_)).getD n φ.c_0

/-- Its line. -/
def fewLine (a b : WRef S_) (x0 x1 : WRef S2) (φ : fn_threefry2x32.Bufs) : List RCmd :=
  tfLine bcast_S_S2 a b x0 x1 φ.v0 φ.c φ.v1 (fewV φ) (fewC φ)

set_option maxHeartbeats 0 in
/-- The function's body is its line. -/
theorem few_line (a b : WRef S_) (x0 x1 : WRef S2) (φ : fn_threefry2x32.Bufs) :
    IsLine (fn_threefry2x32.body (F := Ideal) a b x0 x1 φ) (fewLine a b x0 x1 φ) := by
  have h0 : IsLine (fn_threefry2x32.body_part0 (F := Ideal) a b x0 x1 φ) ((fewLine a b x0 x1 φ).take 60) := rfl
  have h1 : IsLine (fn_threefry2x32.body_part1 (F := Ideal) a b x0 x1 φ) (((fewLine a b x0 x1 φ).drop 60).take 60) := rfl
  have h2 : IsLine (fn_threefry2x32.body_part2 (F := Ideal) a b x0 x1 φ) ((((fewLine a b x0 x1 φ).drop 60).drop 60).take 60) := rfl
  have h3 : IsLine (fn_threefry2x32.body_part3 (F := Ideal) a b x0 x1 φ) ((((fewLine a b x0 x1 φ).drop 60).drop 60).drop 60) := rfl
  rw [parts 60 (fewLine a b x0 x1 φ), parts 60 ((fewLine a b x0 x1 φ).drop 60),
    parts 60 (((fewLine a b x0 x1 φ).drop 60).drop 60)]
  exact h0.append (h1.append (h2.append h3))

/-- The value buffers of a call of the random words' function at shape `S16384x2`, by number. -/
def allV (φ : fn_threefry2x32_0.Bufs) (n : ℕ) : WRef S16384x2 :=
  ([φ.v2, φ.v3, φ.v4, φ.v5, φ.v6, φ.v7, φ.v8, φ.v9, φ.v10, φ.v11, φ.v12, φ.v13, φ.v14, φ.v15, φ.v16, φ.v17,
   φ.v18, φ.v19, φ.v20, φ.v21, φ.v22, φ.v23, φ.v24, φ.v25, φ.v26, φ.v27, φ.v28, φ.v29, φ.v30, φ.v31, φ.v32,
   φ.v33, φ.v34, φ.v35, φ.v36, φ.v37, φ.v38, φ.v39, φ.v40, φ.v41, φ.v42, φ.v43, φ.v44, φ.v45, φ.v46, φ.v47,
   φ.v48, φ.v49, φ.v50, φ.v51, φ.v52, φ.v53, φ.v54, φ.v55, φ.v56, φ.v57, φ.v58, φ.v59, φ.v60, φ.v61, φ.v62,
   φ.v63, φ.v64, φ.v65, φ.v66, φ.v67, φ.v68, φ.v69, φ.v70, φ.v71, φ.v72, φ.v73, φ.v74, φ.v75, φ.v76, φ.v77,
   φ.v78, φ.v79, φ.v80, φ.v81, φ.v82, φ.v83, φ.v84, φ.v85, φ.v86, φ.v87, φ.v88, φ.v89, φ.v90, φ.v91, φ.v92,
   φ.v93, φ.v94, φ.v95, φ.v96, φ.v97, φ.v98, φ.v99, φ.v100, φ.v101, φ.v102, φ.v103, φ.v104, φ.v105, φ.v106,
   φ.v107, φ.v108, φ.v109, φ.v110, φ.v111, φ.v112, φ.v113, φ.v114, φ.v115, φ.v116, φ.v117, φ.v118, φ.v119,
   φ.v120, φ.v121, φ.v122, φ.v123, φ.v124, φ.v125, φ.v126, φ.v127, φ.v128, φ.v129, φ.v130, φ.v131, φ.v132,
   φ.v133, φ.v134, φ.v135, φ.v136, φ.v137, φ.v138, φ.v139, φ.v140, φ.v141, φ.v142, φ.v143, φ.v144, φ.v145,
   φ.v146, φ.v147, φ.v148, φ.v149, φ.v150, φ.v151, φ.v152, φ.v153, φ.v154, φ.v155, φ.v156, φ.v157, φ.v158,
   φ.v159, φ.v160, φ.v161, φ.v162, φ.v163, φ.v164, φ.v165, φ.v166, φ.v167, φ.v168, φ.v169, φ.v170, φ.v171,
   φ.v172, φ.v173, φ.v174, φ.v175] : List (WRef S16384x2)).getD (n - 2) φ.v2

/-- Its constants' buffers. -/
def allC (φ : fn_threefry2x32_0.Bufs) (n : ℕ) : WRef S_ :=
  ([φ.c_0, φ.c_1, φ.c_2, φ.c_3, φ.c_4, φ.c_5, φ.c_6, φ.c_7, φ.c_8, φ.c_9, φ.c_10, φ.c_11, φ.c_12, φ.c_13,
   φ.c_14, φ.c_15, φ.c_16, φ.c_17, φ.c_18, φ.c_19, φ.c_20, φ.c_21, φ.c_22, φ.c_23, φ.c_24, φ.c_25, φ.c_26,
   φ.c_27, φ.c_28, φ.c_29, φ.c_30, φ.c_31, φ.c_32, φ.c_33, φ.c_34, φ.c_35, φ.c_36, φ.c_37, φ.c_38, φ.c_39,
   φ.c_40, φ.c_41, φ.c_42, φ.c_43, φ.c_44] : List (WRef S_)).getD n φ.c_0

/-- Its line. -/
def allLine (a b : WRef S_) (x0 x1 : WRef S16384x2) (φ : fn_threefry2x32_0.Bufs) : List RCmd :=
  tfLine bcast_S_S16384x2 a b x0 x1 φ.v0 φ.c φ.v1 (allV φ) (allC φ)

set_option maxHeartbeats 0 in
/-- The function's body is its line. -/
theorem all_line (a b : WRef S_) (x0 x1 : WRef S16384x2) (φ : fn_threefry2x32_0.Bufs) :
    IsLine (fn_threefry2x32_0.body (F := Ideal) a b x0 x1 φ) (allLine a b x0 x1 φ) := by
  have h0 : IsLine (fn_threefry2x32_0.body_part0 (F := Ideal) a b x0 x1 φ) ((allLine a b x0 x1 φ).take 60) := rfl
  have h1 : IsLine (fn_threefry2x32_0.body_part1 (F := Ideal) a b x0 x1 φ) (((allLine a b x0 x1 φ).drop 60).take 60) := rfl
  have h2 : IsLine (fn_threefry2x32_0.body_part2 (F := Ideal) a b x0 x1 φ) ((((allLine a b x0 x1 φ).drop 60).drop 60).take 60) := rfl
  have h3 : IsLine (fn_threefry2x32_0.body_part3 (F := Ideal) a b x0 x1 φ) ((((allLine a b x0 x1 φ).drop 60).drop 60).drop 60) := rfl
  rw [parts 60 (allLine a b x0 x1 φ), parts 60 ((allLine a b x0 x1 φ).drop 60),
    parts 60 (((allLine a b x0 x1 φ).drop 60).drop 60)]
  exact h0.append (h1.append (h2.append h3))

end Cert.Stop

end

end
-- ==== Proof.RefMain.lean ====
/-
  The reference's program as one line of host operations, continued: the functions that call the random words', and the
  main program, in groups by what they compute.
-/
module

public import proofs.«01_k».proof.Proof.RefLine

@[expose] public section

set_option maxRecDepth 16384

noncomputable section

namespace Cert.Stop

open Idealize.ShloMosaic Idealize.ShloMosaic.StableHlo Idealize.SL.Sem
open Cert.ReferenceIdeal
open Facts₀ Facts

variable {F : FTy → Type} [FloatOps F]

/-- A reference to a tensor of numbers of shape `S`. -/
abbrev FRef (S : Shape) : Type := TRef sig ⟨S, .f32⟩

/-- A program of some operations, a call and more operations is the line of the three. -/
theorem IsLine.call {nD : ℕ} {Λ : Labels} {p c : Prog (TpuEff nD τ sig (Elt Ideal) Λ .tc) PUnit} {pre cs post : List RCmd}
    (hc : IsLine c cs) (hp : p = seqK (pre.map Cmd.op) (c >>= fun _ => seq (post.map Cmd.op))) :
    IsLine p (pre ++ (cs ++ post)) := by
  unfold IsLine at hc ⊢
  rw [hp, hc, List.map_append, List.map_append, seq_append, seq_append, ← seq_bind_seqK]

/-- The split of a key: the key's words and the counters. -/
def splitPre (k : WRef S2) (φ : fn_threefry_split.Bufs) : List (Cmd sig (Elt F)) :=
  [.un k φ.v0 (extractStridedSlice S1 ![0] · slices_S2_S1_0),
   .resh φ.v0 φ.v1 (rfl : (.i32 : EltTy) = .i32) shapeCasts_S1_S_,
   .un k φ.v2 (extractStridedSlice S1 ![1] · slices_S2_S1_1),
   .resh φ.v2 φ.v3 (rfl : (.i32 : EltTy) = .i32) shapeCasts_S1_S_,
   .nul φ.v4 (iotaInDim S2 64 0),
   .nul φ.c (constantI S_ 64 1#64),
   .un φ.c φ.v5 (broadcastInDim S2 ![] bcast_S_S2),
   .bin φ.v5 φ.v4 φ.v6 muli,
   .nul φ.c_0 (constantI S_ 64 32#64),
   .un φ.c_0 φ.v7 (broadcastInDim S2 ![] bcast_S_S2),
   .bin φ.v6 φ.v7 φ.v8 Host.shrui,
   .un φ.v6 φ.v9 (trunci 32 · natLt_32_64),
   .un φ.v8 φ.v10 (trunci 32 · natLt_32_64)]

/-- The split of a key: its words arranged. -/
def splitPost (φ : fn_threefry_split.Bufs) : List (Cmd sig (Elt F)) :=
  [.un φ.call0.v171 φ.v12 (broadcastInDim S2x1 ![0] bcast_S2_S2x1_0),
   .un φ.call0.v175 φ.v13 (broadcastInDim S2x1 ![0] bcast_S2_S2x1_0),
   .bin φ.v12 φ.v13 φ.v14 (fun a b => concatenate S2x2 1 [⟨S2x1, a⟩, ⟨S2x1, b⟩] concatenates_S2x1_S2x1_S2x2_d1)]

/-- The split of a key. -/
def splitLine (k : WRef S2) (φ : fn_threefry_split.Bufs) : List RCmd :=
  splitPre k φ ++ (fewLine φ.v1 φ.v3 φ.v10 φ.v9 φ.call0 ++ splitPost φ)

theorem split_line (k : WRef S2) (φ : fn_threefry_split.Bufs) :
    IsLine (fn_threefry_split.body (F := Ideal) k φ) (splitLine k φ) :=
  IsLine.call (few_line φ.v1 φ.v3 φ.v10 φ.v9 φ.call0) rfl

/-- Uniform noise: the bounds, the key's words and the counters. -/
def unifPre (k : WRef S2) (hi lo : FRef S_) (φ : fn_uniform.Bufs) : List (Cmd sig (Elt F)) :=
  [.un hi φ.v0 id,
   .un lo φ.v1 (broadcastInDim S1x1 ![] bcast_S_S1x1),
   .un φ.v0 φ.v2 (broadcastInDim S1x1 ![] bcast_S_S1x1),
   .un k φ.v3 (extractStridedSlice S1 ![0] · slices_S2_S1_0),
   .resh φ.v3 φ.v4 (rfl : (.i32 : EltTy) = .i32) shapeCasts_S1_S_,
   .un k φ.v5 (extractStridedSlice S1 ![1] · slices_S2_S1_1),
   .resh φ.v5 φ.v6 (rfl : (.i32 : EltTy) = .i32) shapeCasts_S1_S_,
   .nul φ.v7 (iotaInDim S16384x2 64 0),
   .nul φ.v8 (iotaInDim S16384x2 64 1),
   .nul φ.c (constantI S_ 64 2#64),
   .un φ.c φ.v9 (broadcastInDim S16384x2 ![] bcast_S_S16384x2),
   .bin φ.v9 φ.v7 φ.v10 muli,
   .nul φ.c_0 (constantI S_ 64 1#64),
   .un φ.c_0 φ.v11 (broadcastInDim S16384x2 ![] bcast_S_S16384x2),
   .bin φ.v11 φ.v8 φ.v12 muli,
   .bin φ.v10 φ.v12 φ.v13 addi,
   .nul φ.c_1 (constantI S_ 64 32#64),
   .un φ.c_1 φ.v14 (broadcastInDim S16384x2 ![] bcast_S_S16384x2),
   .bin φ.v13 φ.v14 φ.v15 Host.shrui,
   .un φ.v13 φ.v16 (trunci 32 · natLt_32_64),
   .un φ.v15 φ.v17 (trunci 32 · natLt_32_64)]

/-- Uniform noise: the words as numbers between the bounds. -/
def unifPost (φ : fn_uniform.Bufs) : List (Cmd sig (Elt F)) :=
  [.bin φ.call0.v171 φ.call0.v175 φ.v19 xori,
   .nul φ.c_2 (constantI S_ 32 9#32),
   .un φ.c_2 φ.v20 (broadcastInDim S16384x2 ![] bcast_S_S16384x2),
   .bin φ.v19 φ.v20 φ.v21 Host.shrui,
   .nul φ.c_3 (constantI S_ 32 1065353216#32),
   .un φ.c_3 φ.v22 (broadcastInDim S16384x2 ![] bcast_S_S16384x2),
   .bin φ.v21 φ.v22 φ.v23 ori,
   .un φ.v23 φ.v24 (bitcastToFloat .f32),
   .nul φ.cst (constant S_ .f32 0x3F800000#32),
   .un φ.cst φ.v25 (broadcastInDim S16384x2 ![] bcast_S_S16384x2),
   .bin φ.v24 φ.v25 φ.v26 subf,
   .bin φ.v2 φ.v1 φ.v27 subf,
   .un φ.v27 φ.v28 (broadcastInDim S16384x2 ![0, 1] bcast_S1x1_S16384x2_0_1),
   .bin φ.v26 φ.v28 φ.v29 mulf,
   .un φ.v1 φ.v30 (broadcastInDim S16384x2 ![0, 1] bcast_S1x1_S16384x2_0_1),
   .bin φ.v29 φ.v30 φ.v31 addf,
   .un φ.v1 φ.v32 (broadcastInDim S16384x2 ![0, 1] bcast_S1x1_S16384x2_0_1),
   .bin φ.v32 φ.v31 φ.v33 maximumf]

/-- Uniform noise. -/
def unifLine (k : WRef S2) (hi lo : FRef S_) (φ : fn_uniform.Bufs) : List RCmd :=
  unifPre k hi lo φ ++ (allLine φ.v4 φ.v6 φ.v17 φ.v16 φ.call0 ++ unifPost φ)

theorem unif_line (k : WRef S2) (hi lo : FRef S_) (φ : fn_uniform.Bufs) :
    IsLine (fn_uniform.body (F := Ideal) k hi lo φ) (unifLine k hi lo φ) :=
  IsLine.call (all_line φ.v4 φ.v6 φ.v17 φ.v16 φ.call0) rfl

/-- The noise's bounds. -/
def gumbelPre (φ : fn_gumbel.Bufs) : List (Cmd sig (Elt F)) :=
  [.nul φ.cst (constant S_ .f32 0x3F800000#32),
   .nul φ.cst_0 (constant S_ .f32 0x00800000#32)]

/-- Two logarithms of the uniform noise, each negated. -/
def gumbelPost (φ : fn_gumbel.Bufs) : List (Cmd sig (Elt F)) :=
  [.un φ.call0.v33 φ.v1 Host.log,
   .un φ.v1 φ.v2 Host.negf,
   .un φ.v2 φ.v3 Host.log,
   .un φ.v3 φ.v4 Host.negf]

/-- The noise. -/
def gumbelLine (k : WRef S2) (φ : fn_gumbel.Bufs) : List RCmd :=
  gumbelPre φ ++ (unifLine k φ.cst φ.cst_0 φ.call0 ++ gumbelPost φ)

theorem gumbel_line (k : WRef S2) (φ : fn_gumbel.Bufs) :
    IsLine (fn_gumbel.body (F := Ideal) k φ) (gumbelLine k φ) :=
  IsLine.call (unif_line k φ.cst φ.cst_0 φ.call0) rfl

/-- The index of the larger entry of each row. -/
def argmaxLine (x : FRef S16384x2) (φ : fn_argmax.Bufs) : List (Cmd sig (Elt F)) :=
  [.nul φ.v0 (iotaInDim S16384x2 32 1),
   .nul φ.cst (constant S_ .f32 0xFF800000#32),
   .nul φ.c (constantI S_ 32 0#32),
   .quat x φ.v0 φ.cst φ.c φ.v1_0 (fun x y u v j => (Host.argReduce reducer_argmax_f32_i32 x y u v reducesTo_S16384x2_S16384_d1 h_S_ j).1),
   .quat x φ.v0 φ.cst φ.c φ.v1_1 (fun x y u v j => (Host.argReduce reducer_argmax_f32_i32 x y u v reducesTo_S16384x2_S16384_d1 h_S_ j).2)]

/-- The key of the seed. -/
def keyLine : List (Cmd sig (Elt F)) :=
  [.nul (.of main_c) (constantI S_ 32 42#32),
   .nul (.of main_c_0) (constantI S_ 32 32#32),
   .bin (.of main_c) (.of main_c_0) (.of main_v0) (Host.shrui : (⟨S_, .i32⟩ : BufTy).Contents (Elt F) → (⟨S_, .i32⟩ : BufTy).Contents (Elt F) → (⟨S_, .i32⟩ : BufTy).Contents (Elt F)),
   .un (.of main_v0) (.of main_v1) (id : (⟨S_, .i32⟩ : BufTy).Contents (Elt F) → (⟨S_, .i32⟩ : BufTy).Contents (Elt F)),
   .un (.of main_v1) (.of main_v2) (broadcastInDim S1 ![] bcast_S_S1 : (⟨S_, .i32⟩ : BufTy).Contents (Elt F) → (⟨S1, .i32⟩ : BufTy).Contents (Elt F)),
   .nul (.of main_c_1) (constantI S_ 32 4294967295#32),
   .bin (.of main_c) (.of main_c_1) (.of main_v3) (andi : (⟨S_, .i32⟩ : BufTy).Contents (Elt F) → (⟨S_, .i32⟩ : BufTy).Contents (Elt F) → (⟨S_, .i32⟩ : BufTy).Contents (Elt F)),
   .un (.of main_v3) (.of main_v4) (id : (⟨S_, .i32⟩ : BufTy).Contents (Elt F) → (⟨S_, .i32⟩ : BufTy).Contents (Elt F)),
   .un (.of main_v4) (.of main_v5) (broadcastInDim S1 ![] bcast_S_S1 : (⟨S_, .i32⟩ : BufTy).Contents (Elt F) → (⟨S1, .i32⟩ : BufTy).Contents (Elt F)),
   .bin (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

/-- The rows of the split key. -/
def rowLine : List (Cmd sig (Elt F)) :=
  [.un (.of main_v7) (.of main_v8) ((extractStridedSlice S1x2 ![0, 0] · slices_S2x2_S1x2_0_0) : (⟨S2x2, .i32⟩ : BufTy).Contents (Elt F) → (⟨S1x2, .i32⟩ : BufTy).Contents (Elt F)),
   .resh (.of main_v8) (.of main_v9) (rfl : (.i32 : EltTy) = .i32) shapeCasts_S1x2_S2,
   .un (.of main_v7) (.of main_v10) ((extractStridedSlice S1x2 ![1, 0] · slices_S2x2_S1x2_1_0) : (⟨S2x2, .i32⟩ : BufTy).Contents (Elt F) → (⟨S1x2, .i32⟩ : BufTy).Contents (Elt F)),
   .resh (.of main_v10) (.of main_v11) (rfl : (.i32 : EltTy) = .i32) shapeCasts_S1x2_S2]

/-- Whether the step is the first. -/
def maskLine : List (Cmd sig (Elt F)) :=
  [.nul (.of main_cst) (constant S_ .f32 0x3F800000#32),
   .un (.of main_cst) (.of main_v12) (broadcastInDim S16384x1 ![] bcast_S_S16384x1 : (⟨S_, .f32⟩ : BufTy).Contents (Elt F) → (⟨S16384x1, .f32⟩ : BufTy).Contents (Elt F)),
   .un (.of main_arg1) (.of main_v13) (sitofp .f32 : (⟨S_, .i32⟩ : BufTy).Contents (Elt F) → (⟨S_, .f32⟩ : BufTy).Contents (Elt F)),
   .un (.of main_v13) (.of main_v14) (broadcastInDim S16384x1 ![] bcast_S_S16384x1 : (⟨S_, .f32⟩ : BufTy).Contents (Elt F) → (⟨S16384x1, .f32⟩ : BufTy).Contents (Elt F)),
   .bin (.of main_v14) (.of main_v12) (.of main_v15) (cmpf .oeq : (⟨S16384x1, .f32⟩ : BufTy).Contents (Elt F) → (⟨S16384x1, .f32⟩ : BufTy).Contents (Elt F) → (⟨S16384x1, .i1⟩ : BufTy).Contents (Elt F)),
   .un (.of main_v15) (.of main_v16) ((extui 32 · natLt_1_32) : (⟨S16384x1, .i1⟩ : BufTy).Contents (Elt F) → (⟨S16384x1, .i32⟩ : BufTy).Contents (Elt F))]

/-- The two layers. -/
def mlpLine : List (Cmd sig (Elt F)) :=
  [.bin (.of main_arg0) (.of main_arg3) (.of main_v17) ((fun l r => Host.dotGeneral dot_S16384x128_S128x20_S16384x20_1_0_0_1_n_n none l r) : (⟨S16384x128, .f32⟩ : BufTy).Contents (Elt F) → (⟨S128x20, .f32⟩ : BufTy).Contents (Elt F) → (⟨S16384x20, .f32⟩ : BufTy).Contents (Elt F)),
   .un (.of main_arg4) (.of main_v18) (broadcastInDim S1x20 ![1] bcast_S20_S1x20_1 : (⟨S20, .f32⟩ : BufTy).Contents (Elt F) → (⟨S1x20, .f32⟩ : BufTy).Contents (Elt F)),
   .un (.of main_v18) (.of main_v19) (broadcastInDim S16384x20 ![0, 1] bcast_S1x20_S16384x20_0_1 : (⟨S1x20, .f32⟩ : BufTy).Contents (Elt F) → (⟨S16384x20, .f32⟩ : BufTy).Contents (Elt F)),
   .bin (.of main_v17) (.of main_v19) (.of main_v20) (addf : (⟨S16384x20, .f32⟩ : BufTy).Contents (Elt F) → (⟨S16384x20, .f32⟩ : BufTy).Contents (Elt F) → (⟨S16384x20, .f32⟩ : BufTy).Contents (Elt F)),
   .nul (.of main_cst_2) (constant S_ .f32 0x00000000#32),
   .un (.of main_cst_2) (.of main_v21) (broadcastInDim S16384x20 ![] bcast_S_S16384x20 : (⟨S_, .f32⟩ : BufTy).Contents (Elt F) → (⟨S16384x20, .f32⟩ : BufTy).Contents (Elt F)),
   .bin (.of main_v20) (.of main_v21) (.of main_v22) (maximumf : (⟨S16384x20, .f32⟩ : BufTy).Contents (Elt F) → (⟨S16384x20, .f32⟩ : BufTy).Contents (Elt F) → (⟨S16384x20, .f32⟩ : BufTy).Contents (Elt F)),
   .bin (.of main_v22) (.of main_arg5) (.of main_v23) ((fun l r => Host.dotGeneral dot_S16384x20_S20x2_S16384x2_1_0_0_1_n_n none l r) : (⟨S16384x20, .f32⟩ : BufTy).Contents (Elt F) → (⟨S20x2, .f32⟩ : BufTy).Contents (Elt F) → (⟨S16384x2, .f32⟩ : BufTy).Contents (Elt F)),
   .un (.of main_arg6) (.of main_v24) (broadcastInDim S1x2 ![1] bcast_S2_S1x2_1 : (⟨S2, .f32⟩ : BufTy).Contents (Elt F) → (⟨S1x2, .f32⟩ : BufTy).Contents (Elt F)),
   .un (.of main_v24) (.of main_v25) (broadcastInDim S16384x2 ![0, 1] bcast_S1x2_S16384x2_0_1 : (⟨S1x2, .f32⟩ : BufTy).Contents (Elt F) → (⟨S16384x2, .f32⟩ : BufTy).Contents (Elt F)),
   .bin (.of main_v23) (.of main_v25) (.of main_v26) (addf : (⟨S16384x2, .f32⟩ : BufTy).Contents (Elt F) → (⟨S16384x2, .f32⟩ : BufTy).Contents (Elt F) → (⟨S16384x2, .f32⟩ : BufTy).Contents (Elt F))]

/-- The softmax of each row. -/
def softLine : List (Cmd sig (Elt F)) :=
  [.nul (.of main_cst_3) (constant S_ .f32 0xFF800000#32),
   .bin (.of main_v26) (.of main_cst_3) (.of main_v27) ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
   .nul (.of main_cst_4) (constant S_ .f32 0xFF800000#32),
   .un (.of main_cst_4) (.of main_v28) (broadcastInDim S16384 ![] bcast_S_S16384 : (⟨S_, .f32⟩ : BufTy).Contents (Elt F) → (⟨S16384, .f32⟩ : BufTy).Contents (Elt F)),
   .bin (.of main_v28) (.of main_v27) (.of main_v29) (maximumf : (⟨S16384, .f32⟩ : BufTy).Contents (Elt F) → (⟨S16384, .f32⟩ : BufTy).Contents (Elt F) → (⟨S16384, .f32⟩ : BufTy).Contents (Elt F)),
   .un (.of main_v29) (.of main_v30) (broadcastInDim S16384x1 ![0] bcast_S16384_S16384x1_0 : (⟨S16384, .f32⟩ : BufTy).Contents (Elt F) → (⟨S16384x1, .f32⟩ : BufTy).Contents (Elt F)),
   .un (.of main_v30) (.of main_v31) (broadcastInDim S16384x2 ![0, 1] bcast_S16384x1_S16384x2_0_1 : (⟨S16384x1, .f32⟩ : BufTy).Contents (Elt F) → (⟨S16384x2, .f32⟩ : BufTy).Contents (Elt F)),
   .bin (.of main_v26) (.of main_v31) (.of main_v32) (subf : (⟨S16384x2, .f32⟩ : BufTy).Contents (Elt F) → (⟨S16384x2, .f32⟩ : BufTy).Contents (Elt F) → (⟨S16384x2, .f32⟩ : BufTy).Contents (Elt F)),
   .un (.of main_v32) (.of main_v33) (Host.exp : (⟨S16384x2, .f32⟩ : BufTy).Contents (Elt F) → (⟨S16384x2, .f32⟩ : BufTy).Contents (Elt F)),
   .nul (.of main_cst_5) (constant S_ .f32 0x00000000#32),
   .bin (.of main_v33) (.of main_cst_5) (.of main_v34) ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
   .un (.of main_v34) (.of main_v35) (broadcastInDim S16384x1 ![0] bcast_S16384_S16384x1_0 : (⟨S16384, .f32⟩ : BufTy).Contents (Elt F) → (⟨S16384x1, .f32⟩ : BufTy).Contents (Elt F)),
   .un (.of main_v35) (.of main_v36) (broadcastInDim S16384x2 ![0, 1] bcast_S16384x1_S16384x2_0_1 : (⟨S16384x1, .f32⟩ : BufTy).Contents (Elt F) → (⟨S16384x2, .f32⟩ : BufTy).Contents (Elt F)),
   .bin (.of main_v33) (.of main_v36) (.of main_v37) (Host.divf : (⟨S16384x2, .f32⟩ : BufTy).Contents (Elt F) → (⟨S16384x2, .f32⟩ : BufTy).Contents (Elt F) → (⟨S16384x2, .f32⟩ : BufTy).Contents (Elt F))]

/-- The probabilities mixed with a floor, and their logarithms. -/
def floorLine : List (Cmd sig (Elt F)) :=
  [.nul (.of main_cst_6) (constant S_ .f32 0x3F800000#32),
   .nul (.of main_cst_7) (constant S_ .f32 0x41A00000#32),
   .bin (.of main_cst_6) (.of main_cst_7) (.of main_v38) (Host.divf : (⟨S_, .f32⟩ : BufTy).Contents (Elt F) → (⟨S_, .f32⟩ : BufTy).Contents (Elt F) → (⟨S_, .f32⟩ : BufTy).Contents (Elt F)),
   .nul (.of main_cst_8) (constant S_ .f32 0x3F800000#32),
   .bin (.of main_cst_8) (.of main_v38) (.of main_v39) (subf : (⟨S_, .f32⟩ : BufTy).Contents (Elt F) → (⟨S_, .f32⟩ : BufTy).Contents (Elt F) → (⟨S_, .f32⟩ : BufTy).Contents (Elt F)),
   .un (.of main_v39) (.of main_v40) (broadcastInDim S16384x2 ![] bcast_S_S16384x2 : (⟨S_, .f32⟩ : BufTy).Contents (Elt F) → (⟨S16384x2, .f32⟩ : BufTy).Contents (Elt F)),
   .bin (.of main_v40) (.of main_v37) (.of main_v41) (mulf : (⟨S16384x2, .f32⟩ : BufTy).Contents (Elt F) → (⟨S16384x2, .f32⟩ : BufTy).Contents (Elt F) → (⟨S16384x2, .f32⟩ : BufTy).Contents (Elt F)),
   .nul (.of main_cst_9) (constant S_ .f32 0x3F800000#32),
   .nul (.of main_cst_10) (constant S_ .f32 0x41A00000#32),
   .bin (.of main_cst_9) (.of main_cst_10) (.of main_v42) (Host.divf : (⟨S_, .f32⟩ : BufTy).Contents (Elt F) → (⟨S_, .f32⟩ : BufTy).Contents (Elt F) → (⟨S_, .f32⟩ : BufTy).Contents (Elt F)),
   .bin (.of main_v38) (.of main_v42) (.of main_v43) (mulf : (⟨S_, .f32⟩ : BufTy).Contents (Elt F) → (⟨S_, .f32⟩ : BufTy).Contents (Elt F) → (⟨S_, .f32⟩ : BufTy).Contents (Elt F)),
   .un (.of main_v43) (.of main_v44) (broadcastInDim S16384x2 ![] bcast_S_S16384x2 : (⟨S_, .f32⟩ : BufTy).Contents (Elt F) → (⟨S16384x2, .f32⟩ : BufTy).Contents (Elt F)),
   .bin (.of main_v41) (.of main_v44) (.of main_v45) (addf : (⟨S16384x2, .f32⟩ : BufTy).Contents (Elt F) → (⟨S16384x2, .f32⟩ : BufTy).Contents (Elt F) → (⟨S16384x2, .f32⟩ : BufTy).Contents (Elt F)),
   .un (.of main_v45) (.of main_v46) (Host.log : (⟨S16384x2, .f32⟩ : BufTy).Contents (Elt F) → (⟨S16384x2, .f32⟩ : BufTy).Contents (Elt F))]

/-- The noise added to the logarithms. -/
def addLine : List (Cmd sig (Elt F)) :=
  [.bin (.of main_v47) (.of main_v46) (.of main_v48) (addf : (⟨S16384x2, .f32⟩ : BufTy).Contents (Elt F) → (⟨S16384x2, .f32⟩ : BufTy).Contents (Elt F) → (⟨S16384x2, .f32⟩ : BufTy).Contents (Elt F))]

/-- The rows whose first entry is the larger, where the step is the first. -/
def pickLine : List (Cmd sig (Elt F)) :=
  [.nul (.of main_c_11) (constantI S_ 32 0#32),
   .un (.of main_c_11) (.of main_v50) (broadcastInDim S16384 ![] bcast_S_S16384 : (⟨S_, .i32⟩ : BufTy).Contents (Elt F) → (⟨S16384, .i32⟩ : BufTy).Contents (Elt F)),
   .bin (.of main_v49) (.of main_v50) (.of main_v51) (cmpi .eq : (⟨S16384, .i32⟩ : BufTy).Contents (Elt F) → (⟨S16384, .i32⟩ : BufTy).Contents (Elt F) → (⟨S16384, .i1⟩ : BufTy).Contents (Elt F)),
   .un (.of main_v51) (.of main_v52) ((extui 32 · natLt_1_32) : (⟨S16384, .i1⟩ : BufTy).Contents (Elt F) → (⟨S16384, .i32⟩ : BufTy).Contents (Elt F)),
   .un (.of main_v52) (.of main_v53) (broadcastInDim S16384x1 ![0] bcast_S16384_S16384x1_0 : (⟨S16384, .i32⟩ : BufTy).Contents (Elt F) → (⟨S16384x1, .i32⟩ : BufTy).Contents (Elt F)),
   .bin (.of main_v16) (.of main_v53) (.of main_v54) (muli : (⟨S16384x1, .i32⟩ : BufTy).Contents (Elt F) → (⟨S16384x1, .i32⟩ : BufTy).Contents (Elt F) → (⟨S16384x1, .i32⟩ : BufTy).Contents (Elt F))]

/-- The main program after the split. -/
def restLine : List RCmd := rowLine ++ (maskLine ++ (mlpLine ++ (softLine ++ floorLine)))

/-- The main program after the noise. -/
def lastLine : List RCmd :=
  addLine ++ (argmaxLine (.of main_v48) main_call2 ++ pickLine)

/-- The main program. -/
def mainLine : List RCmd :=
  (keyLine ++ (splitLine (.of main_v6) main_call0 ++ restLine)) ++ ([] ++ (gumbelLine (.of main_v9) main_call1 ++ lastLine))

set_option maxHeartbeats 0 in
set_option maxRecDepth 200000 in
/-- The main program is its line. -/
theorem main_line (d : Dev nD) : IsLine (main (F := Ideal) d) mainLine := by
  have h0 : IsLine (main_part0 (F := Ideal) d) (keyLine ++ (splitLine (.of main_v6) main_call0 ++ restLine)) :=
    IsLine.call (split_line (.of main_v6) main_call0) rfl
  have h1 : IsLine (main_part1 (F := Ideal) d) ([] ++ (gumbelLine (.of main_v9) main_call1 ++ lastLine)) :=
    IsLine.call (gumbel_line (.of main_v9) main_call1) rfl
  exact h0.append h1

end Cert.Stop

end

end
-- ==== Proof.RefRun.lean ====
/-
  The reference's run: it ends, its arguments unchanged, with its result at what its line of operations leaves.
-/
module

public import proofs.«01_k».proof.Proof.RefMain
public import Idealize.ShloMosaic.Lib.Quiescent

@[expose] public section

set_option maxRecDepth 16384

noncomputable section

namespace Cert.Stop

open Idealize.ShloMosaic Idealize.ShloMosaic.StableHlo Idealize.SL.Sem
open Cert.ReferenceIdeal

/-- No operation reads a buffer before it is written, and none writes one twice. -/
theorem main_ranked : ranked 15 mainLine = true := by decide +kernel

/-- The contents of device `d`'s buffers when the reference has run from the memory `m`. -/
def final (m : (ℓ : Loc nD τ sig) → Buf (Elt Ideal) ℓ) (d : Dev nD) : RVal := run mainLine (launchContents m d)

/-- Every equation of the line holds of the final contents. -/
theorem final_holds (m : (ℓ : Loc nD τ sig) → Buf (Elt Ideal) ℓ) (d : Dev nD) :
    mainLine.Forall (Cmd.Holds (final m d)) := run_holds _ main_ranked

/-- The arguments' buffers are not written. -/
theorem final_arg (m : (ℓ : Loc nD τ sig) → Buf (Elt Ideal) ℓ) (d : Dev nD) (r : Ref sig .tc) (h : rank r < 15) :
    final m d (Proc.devRef .tc r) = m ((d.tc : Thread nD τ).loc r) := run_below _ main_ranked h

/-- The reference's run. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = final m d (Proc.devRef .tc b) :=
  run_line _ _ main_line (by decide +kernel) (by decide +kernel) m ρ

end Cert.Stop

end

end
-- ==== Proof.Frames.lean ====
/-
  The claims other than the value: every program leaves its arguments, the two named constants are the rationals.
-/
module

public import proofs.«01_k».proof.Defs
public import proofs.«01_k».proof.Proof.RefRun
public import proofs.«01_k».proof.Proof.Gen.Kernel.Frame
public import proofs.«01_k».proof.Proof.Gen.KernelIdeal.Frame

@[expose] public section

set_option maxRecDepth 16384

noncomputable section

namespace Cert.Stop

open Idealize.ShloMosaic Idealize.ShloMosaic.StableHlo Idealize.SL.Sem

attribute [local instance] Cert.Kernel.Gen.facts Cert.KernelIdeal.Gen.facts Cert.ReferenceIdeal.Gen.facts

/-- The kernel ends, its arguments unchanged. -/
theorem frame_kernel : Cert.quiescent_Kernel := fun m ρ _ => Cert.Kernel.Gen.frame m ρ

/-- The kernel with exact arithmetic ends, its arguments unchanged. -/
theorem frame_ideal : Cert.quiescent_KernelIdeal := fun m ρ _ => Cert.KernelIdeal.Gen.frame m ρ

/-- The reference ends, its arguments unchanged and no counter raised. -/
theorem frame_reference : Cert.quiescent_ReferenceIdeal := fun m ρ _ =>
  (θ_run _ _ _).mono (fun r h => ⟨fun c => by
      refine ⟨?_, ?_, ?_, ?_, ?_, ?_, ?_, ?_, ?_, ?_, ?_, ?_, ?_, ?_, ?_⟩ <;>
        exact (h c _).trans (final_arg m c _ (by decide +kernel)),
    sem_eq_zero_of_no_sems (by decide) r.2⟩) (ref_run m ρ)

/-- The two constants of the mixing step that the table names are 19/20 and 1/400. -/
theorem named : Cert.preserves_Kernel_KernelIdeal :=
  ⟨IdealRules.named_const.statement _ "keep" .f32 0x3F733333#32 ((19 / 20 : ℝ) : EReal) rfl,
    IdealRules.named_const.statement _ "floor" .f32 0x3B23D70A#32 ((1 / 400 : ℝ) : EReal) rfl⟩

end Cert.Stop

end

end
-- ==== Proof.Spec.lean ====
/-
  What both programs compute, one row at a time: the two logits, their softmax mixed with a floor, the noise of a
  counter, the score of a column, and the decision.
-/
module

public import proofs.«01_k».proof.Proof.Threefry
public import Idealize.ShloMosaic.PureOps.Ideal
public import Idealize.ShloMosaic.Lib.Pointwise

@[expose] public section

set_option maxRecDepth 16384

noncomputable section

namespace Cert.Stop

open Idealize.ShloMosaic

/-- A row's logit of the column `c`: the second layer of the positive part of the first. -/
def logit (x : Fin 128 → EReal) (w : Fin 128 → Fin 20 → EReal) (b : Fin 20 → EReal) (v : Fin 20 → Fin 2 → EReal)
    (a : Fin 2 → EReal) (c : Fin 2) : EReal :=
  ∑ k : Fin 20, max (∑ i : Fin 128, x i * w i k + b k) 0 * v k c + a c

/-- The weight of a column: the exponential of its logit less the larger one. -/
def weight (l : Fin 2 → EReal) (c : Fin 2) : EReal := Ideal.exp (l c - max (l 0) (l 1))

/-- The logarithm of a column's share of the weights, mixed with a floor. -/
def mixed (l : Fin 2 → EReal) (c : Fin 2) : EReal :=
  Ideal.log (((19 / 20 : ℝ) : EReal) * Ideal.div (weight l c) (weight l 0 + weight l 1) + ((1 / 400 : ℝ) : EReal))

/-- The smallest uniform number. -/
def tiny : EReal := Ideal.ofBits .f32 0x00800000#32

/-- The noise that a random word stands for: its upper bits as a number between `tiny` and one, and twice the negated
    logarithm. -/
def noise (w : BitVec 32) : EReal :=
  -Ideal.log (-Ideal.log (max tiny
    ((Ideal.ofBits .f32 (IntOp.ori (IntOp.shrui .host w 9#32) 1065353216#32) - 1) * (1 - tiny) + tiny)))

/-- The score of the column `c` of the row `n`: its noise and its mixed logarithm. -/
def score (l : Fin 2 → EReal) (n : ℕ) (c : Fin 2) : EReal :=
  noise (word (BitVec.ofNat 32 (2 * n + c.val))) + mixed l c

/-- Whether to stop: at the first step, where the first column's score is not the smaller. -/
def decide1 (t : BitVec 32) (s : Fin 2 → EReal) : BitVec 32 := if t = 1#32 ∧ s 1 ≤ s 0 then 1#32 else 0#32

/-- The maximum over two columns. -/
theorem fold_max_two (f : Fin 2 → EReal) : Finset.univ.fold max ⊥ f = max (f 0) (f 1) := by
  rw [show (Finset.univ : Finset (Fin 2)) = {0, 1} from rfl]
  simp

/-- The pattern that maxima start from is the least number. -/
theorem ofBits_bot : Ideal.ofBits .f32 0xFF800000#32 = ⊥ := by simp [Ideal.ofBits, Ideal.ieee]

/-- The pattern of one. -/
theorem ofBits_one : Ideal.ofBits .f32 0x3F800000#32 = 1 := IdealRules.sign_bit.ideal_onePat .f32

/-- The pattern of twenty. -/
theorem ofBits_twenty : Ideal.ofBits .f32 0x41A00000#32 = ((20 : ℝ) : EReal) := by
  simp [Ideal.ofBits, Ideal.ieee]
  rw [← EReal.coe_mul]; norm_num

end Cert.Stop

end

end
-- ==== Proof.KernelWords.lean ====
/-
  The kernel's random words, one block at a time: its rounds are the rounds of the two-word function, at every entry.
-/
module

public import proofs.«01_k».proof.Proof.Spec
public import proofs.«01_k».proof.Proof.Gen.KernelIdeal.Skeleton
public import Idealize.ShloMosaic.Lib.KernelVsHost
public import Idealize.ShloMosaic.Lib.ValueIdxCore

@[expose] public section

set_option maxRecDepth 16384

noncomputable section

namespace Cert.Stop

open Idealize.ShloMosaic
open Cert.KernelIdeal Cert.KernelIdeal.Gen

/-- A pair of blocks of words. -/
abbrev Blocks : Type := IVec S2x8192 32 × IVec S2x8192 32

/-- The pair at an entry. -/
def Blocks.entry (p : Blocks) (j : S2x8192.Idx) : BitVec 32 × BitVec 32 := (p.1 j, p.2 j)

/-- The kernel's round on two blocks. -/
def roundK (l r : BitVec 32) (p : Blocks) : Blocks :=
  (addi p.1 p.2, xori (ori (shli p.2 (broadcast S2x8192 l)) (shrui p.2 (broadcast S2x8192 r))) (addi p.1 p.2))

/-- The kernel's addition of the key's words. -/
def injectK (a b k : BitVec 32) (p : Blocks) : Blocks :=
  (addi p.1 (broadcast S2x8192 a), addi (addi p.2 (broadcast S2x8192 b)) (broadcast S2x8192 k))

/-- The kernel's round is the round at every entry. -/
theorem roundK_entry (l r : BitVec 32) (p : Blocks) (j : S2x8192.Idx) :
    (roundK l r p).entry j = mix l r (p.entry j) := by
  refine Prod.ext rfl ?_
  change IntOp.xori (IntOp.ori (IntOp.shli .vector (p.2 j) l) (IntOp.shrui .vector (p.2 j) r)) (IntOp.addi (p.1 j) (p.2 j))
    = IntOp.xori (IntOp.addi (p.1 j) (p.2 j)) (rot l r (p.2 j))
  rw [rot, ValueIdx.shli_host, ValueIdx.shrui_host]
  exact BitVec.xor_comm _ _

/-- The kernel's addition of the key's words at an entry. -/
theorem injectK_entry (a b k : BitVec 32) (p : Blocks) (j : S2x8192.Idx) :
    (injectK a b k p).entry j = inject a b k (p.entry j) := rfl

/-- Four rounds with the first set of rotations. -/
def roundsAK (p : Blocks) : Blocks := roundK 6#32 26#32 (roundK 26#32 6#32 (roundK 15#32 17#32 (roundK 13#32 19#32 p)))

/-- Four rounds with the second set of rotations. -/
def roundsBK (p : Blocks) : Blocks := roundK 24#32 8#32 (roundK 16#32 16#32 (roundK 29#32 3#32 (roundK 17#32 15#32 p)))

theorem roundsAK_entry (p : Blocks) (j : S2x8192.Idx) : (roundsAK p).entry j = roundsA (p.entry j) := by
  rw [roundsAK, roundsA, roundK_entry, roundK_entry, roundK_entry, roundK_entry]

theorem roundsBK_entry (p : Blocks) (j : S2x8192.Idx) : (roundsBK p).entry j = roundsB (p.entry j) := by
  rw [roundsBK, roundsB, roundK_entry, roundK_entry, roundK_entry, roundK_entry]

/-- The kernel's words of two counters, before their last sixteen additions and shifts: the first four rounds. -/
def stage1 (x0 x1 : IVec S2x8192 32) : Blocks :=
  injectK 270669613#32 1724713080#32 1#32 (roundsAK (addi x0 (broadcast S2x8192 1832780943#32), addi x1 (broadcast S2x8192 270669613#32)))

/-- The kernel's third key word is the one that the other two make. -/
theorem key2_subkey : key2 1832780943#32 270669613#32 = 1724713080#32 := by decide +kernel

/-- The kernel's first four rounds. -/
theorem stage1_eq (x0 x1 : IVec S2x8192 32) :
    (addi (k0_pay12 x1 x0 1832780943#32) (broadcast S2x8192 270669613#32), k0_pay13 x1 x0 1832780943#32) = stage1 x0 x1 := by
  have h1 : (k0_pay6 x1 x0 1832780943#32, k0_pay7 x1 x0 1832780943#32)
    = roundK 13#32 19#32 (addi x0 (broadcast S2x8192 1832780943#32), addi x1 (broadcast S2x8192 270669613#32)) := rfl
  have h2 : (k0_pay8 x1 x0 1832780943#32, k0_pay9 x1 x0 1832780943#32)
    = roundK 15#32 17#32 (k0_pay6 x1 x0 1832780943#32, k0_pay7 x1 x0 1832780943#32) := rfl
  have h3 : (k0_pay10 x1 x0 1832780943#32, k0_pay11 x1 x0 1832780943#32)
    = roundK 26#32 6#32 (k0_pay8 x1 x0 1832780943#32, k0_pay9 x1 x0 1832780943#32) := rfl
  have h4 : (addi (k0_pay12 x1 x0 1832780943#32) (broadcast S2x8192 270669613#32), k0_pay13 x1 x0 1832780943#32)
    = injectK 270669613#32 1724713080#32 1#32
      (roundK 6#32 26#32 (k0_pay10 x1 x0 1832780943#32, k0_pay11 x1 x0 1832780943#32)) := rfl
  rw [h4, h3, h2, h1, stage1, roundsAK]

/-- The first half of the kernel's next eight rounds: from the blocks that it starts with. -/
theorem stage2_eq (x0 x1 : IVec S2x8192 32) {v82 v83 : IVec S2x8192 32} (e1 : v82 = k0_pay15 x1 x0 1832780943#32)
    (e2 : v83 = k0_pay16 x1 x0 1832780943#32) :
    (addi (k0_pay20 v82 v83) (broadcast S2x8192 1724713080#32), k0_pay21 v82 v83)
      = injectK 1724713080#32 1832780943#32 2#32 (roundsBK (stage1 x0 x1)) := by
  have h1 : (k0_pay14 x1 x0 1832780943#32, v82)
    = roundK 17#32 15#32 (addi (k0_pay12 x1 x0 1832780943#32) (broadcast S2x8192 270669613#32), k0_pay13 x1 x0 1832780943#32) := by
    rw [e1]; rfl
  have h2 : (v83, k0_pay17 v82 v83) = roundK 29#32 3#32 (k0_pay14 x1 x0 1832780943#32, v82) := by
    have e : v83 = addi (k0_pay14 x1 x0 1832780943#32) v82 := by rw [e2, e1]; rfl
    rw [roundK, ← e]; rfl
  have h3 : (k0_pay18 v82 v83, k0_pay19 v82 v83) = roundK 16#32 16#32 (v83, k0_pay17 v82 v83) := rfl
  have h4 : (addi (k0_pay20 v82 v83) (broadcast S2x8192 1724713080#32), k0_pay21 v82 v83)
    = injectK 1724713080#32 1832780943#32 2#32 (roundK 24#32 8#32 (k0_pay18 v82 v83, k0_pay19 v82 v83)) := rfl
  rw [h4, h3, h2, h1, stage1_eq, roundsBK]

/-- The third four of the kernel's rounds. -/
theorem stage3_eq (v82 v83 : IVec S2x8192 32) {v124 v126 v128 : IVec S2x8192 32} (e1 : v124 = k0_pay26 v82 v83)
    (e2 : v126 = k0_pay27 v82 v83) (e3 : v128 = k0_pay28 v82 v83) :
    (addi (k0_pay30 v124 v126 v128) (broadcast S2x8192 1832780943#32), k0_pay31 v124 v126 v128)
      = injectK 1832780943#32 270669613#32 3#32
        (roundsAK (addi (k0_pay20 v82 v83) (broadcast S2x8192 1724713080#32), k0_pay21 v82 v83)) := by
  have h1 : (k0_pay22 v82 v83, k0_pay23 v82 v83)
    = roundK 13#32 19#32 (addi (k0_pay20 v82 v83) (broadcast S2x8192 1724713080#32), k0_pay21 v82 v83) := rfl
  have h2 : (k0_pay24 v82 v83, k0_pay25 v82 v83) = roundK 15#32 17#32 (k0_pay22 v82 v83, k0_pay23 v82 v83) := rfl
  have h3 : (v124, k0_pay29 v124 v126 v128) = roundK 26#32 6#32 (k0_pay24 v82 v83, k0_pay25 v82 v83) := by
    have e : v124 = addi (k0_pay24 v82 v83) (k0_pay25 v82 v83) := e1
    rw [roundK, ← e, e2, e3]; rfl
  have h4 : (addi (k0_pay30 v124 v126 v128) (broadcast S2x8192 1832780943#32), k0_pay31 v124 v126 v128)
    = injectK 1832780943#32 270669613#32 3#32 (roundK 6#32 26#32 (v124, k0_pay29 v124 v126 v128)) := rfl
  rw [h4, h3, h2, h1, roundsAK]

/-- The fourth four of the kernel's rounds. -/
theorem stage4_eq (v124 v126 v128 : IVec S2x8192 32) :
    (k0_pay40 v124 v126 v128, addi (addi (k0_pay39 v124 v126 v128) (broadcast S2x8192 1724713080#32)) (broadcast S2x8192 4#32))
      = injectK 270669613#32 1724713080#32 4#32
        (roundsBK (addi (k0_pay30 v124 v126 v128) (broadcast S2x8192 1832780943#32), k0_pay31 v124 v126 v128)) := by
  have h1 : (k0_pay32 v124 v126 v128, k0_pay33 v124 v126 v128) = roundK 17#32 15#32
    (addi (k0_pay30 v124 v126 v128) (broadcast S2x8192 1832780943#32), k0_pay31 v124 v126 v128) := rfl
  have h2 : (k0_pay34 v124 v126 v128, k0_pay35 v124 v126 v128)
    = roundK 29#32 3#32 (k0_pay32 v124 v126 v128, k0_pay33 v124 v126 v128) := rfl
  have h3 : (k0_pay36 v124 v126 v128, k0_pay37 v124 v126 v128)
    = roundK 16#32 16#32 (k0_pay34 v124 v126 v128, k0_pay35 v124 v126 v128) := rfl
  have h4 : (k0_pay40 v124 v126 v128, addi (addi (k0_pay39 v124 v126 v128) (broadcast S2x8192 1724713080#32)) (broadcast S2x8192 4#32))
    = injectK 270669613#32 1724713080#32 4#32
      (roundK 24#32 8#32 (k0_pay36 v124 v126 v128, k0_pay37 v124 v126 v128)) := rfl
  rw [h4, h3, h2, h1, roundsBK]

/-- The words' upper bits as numbers, from the pair of blocks after the last addition of the key. -/
def unitK (p : Blocks) : FVec Ideal S2x8192 .f32 :=
  bitcastToFloat .f32 (ori (shrui (xori p.1 p.2) (broadcast S2x8192 9#32)) (broadcast S2x8192 1065353216#32))

/-- The last four of the kernel's rounds, and the numbers that they leave. -/
theorem stage5_eq (v171 v173 : IVec S2x8192 32) :
    k0_pay41 (F := Ideal) v171 v173 1724713080#32 = unitK (injectK 1724713080#32 1832780943#32 5#32
      (roundsAK (v173, addi (addi v171 (broadcast S2x8192 1724713080#32)) (broadcast S2x8192 4#32)))) := rfl

/-- The numbers at an entry. -/
theorem unitK_apply (p : Blocks) (j : S2x8192.Idx) :
    unitK p j = Ideal.ofBits .f32 (IntOp.ori (IntOp.shrui .host (IntOp.xori (p.entry j).1 (p.entry j).2) 9#32) 1065353216#32) := by
  rw [ValueIdx.shrui_host]; rfl

/-- The kernel's numbers at an entry: the upper bits of the word of the entry's counter. -/
theorem unit_value (x1 : IVec S2x8192 32) {v82 v83 v124 v126 v128 : IVec S2x8192 32}
    (e1 : v82 = k0_pay15 x1 k0_pay4 1832780943#32) (e2 : v83 = k0_pay16 x1 k0_pay4 1832780943#32)
    (e3 : v124 = k0_pay26 v82 v83) (e4 : v126 = k0_pay27 v82 v83) (e5 : v128 = k0_pay28 v82 v83) (j : S2x8192.Idx) :
    k0_pay41 (F := Ideal) (k0_pay39 v124 v126 v128) (k0_pay40 v124 v126 v128) 1724713080#32 j
      = Ideal.ofBits .f32 (IntOp.ori (IntOp.shrui .host (word (x1 j)) 9#32) 1065353216#32) := by
  rw [stage5_eq, stage4_eq, stage3_eq v82 v83 e3 e4 e5, stage2_eq k0_pay4 x1 e1 e2, unitK_apply]
  rw [injectK_entry, roundsAK_entry, injectK_entry, roundsBK_entry, injectK_entry, roundsAK_entry, injectK_entry,
    roundsBK_entry, stage1, injectK_entry, roundsAK_entry, word, threefry, key2_subkey]
  rfl

end Cert.Stop

end

end
-- ==== Proof.KernelBlock.lean ====
/-
  What one block of the kernel computes, read at a row of the block: the logits, the mixed logarithms, the counters, the
  decision.
-/
module

public import proofs.«01_k».proof.Proof.KernelWords

@[expose] public section

set_option maxRecDepth 16384

noncomputable section

namespace Cert.Stop

open Idealize.ShloMosaic
open Cert.KernelIdeal Cert.KernelIdeal.Gen

/-- The kernel's two layers on one block, its second layer transposed. -/
def kLogits (x : FVec Ideal S8192x128 .f32) (w : FVec Ideal S128x20 .f32) (b : FVec Ideal S1x20 .f32)
    (v : FVec Ideal S20x2 .f32) (a : FVec Ideal S2x1 .f32) : FVec Ideal S2x8192 .f32 :=
  addf (matmul dot_S20x2_S8192x20_S2x8192_0_1_1_0_n_n none v
      (maximumf (addf (matmul dot_S8192x128_S128x20_S8192x20_1_0_0_1_n_n none x w (constant S8192x20 .f32 0x00000000#32))
          (broadcastTo S8192x20 (shapeCast S1x20 b shapeCasts_S1x20_S1x20) broadcasts_S1x20_S8192x20))
        (broadcast S8192x20 (Scalar.ofBits .f32 0x00000000#32))) (constant S2x8192 .f32 0x00000000#32))
    (broadcastTo S2x8192 (shapeCast S2x1 a shapeCasts_S2x1_S2x1) broadcasts_S2x1_S2x8192)

/-- The two layers at a column and a row of the block. -/
theorem kLogits_apply (x : FVec Ideal S8192x128 .f32) (w : FVec Ideal S128x20 .f32) (b : FVec Ideal S1x20 .f32)
    (v : FVec Ideal S20x2 .f32) (a : FVec Ideal S2x1 .f32) (c : Fin 2) (l : Fin 8192) :
    kLogits x w b v a (ix2 c l) = logit (fun i => x (ix2 l i)) (fun i k => w (ix2 i k)) (fun k => b (ix2 0 k))
      (fun k c => v (ix2 k c)) (fun c => a (ix2 c 0)) c := by
  pointwise [kLogits, logit]
  simp only [mul_comm]

/-- The kernel's weights on one block. -/
def kWeights (z : FVec Ideal S2x8192 .f32) : FVec Ideal S2x8192 .f32 :=
  exp (subf z (broadcastTo S2x8192 (shapeCast S1x8192
    (multiReduction .maximumf [0] S8192 z 0xFF800000#32 reduces_S2x8192_S8192 (.inl rfl) rfl) shapeCasts_S8192_S1x8192)
    broadcasts_S1x8192_S2x8192))

/-- The weights at a column and a row of the block. -/
theorem kWeights_apply (z : FVec Ideal S2x8192 .f32) (c : Fin 2) (l : Fin 8192) :
    kWeights z (ix2 c l) = weight (fun c => z (ix2 c l)) c := by
  pointwise [kWeights, weight, ofBits_bot, fold_max_two]

/-- The first named constant is 19/20. -/
theorem keep_value : Named.named (F := Ideal) Cert.KernelIdeal.κ "keep" (φ := .f32) 0x3F733333#32 = ((19 / 20 : ℝ) : EReal) :=
  IdealRules.named_const.ideal_named_scalar _ _ _ _ rfl

/-- The second named constant is 1/400. -/
theorem floor_value : Named.named (F := Ideal) Cert.KernelIdeal.κ "floor" (φ := .f32) 0x3B23D70A#32 = ((1 / 400 : ℝ) : EReal) :=
  IdealRules.named_const.ideal_named_scalar _ _ _ _ rfl

/-- The kernel's mixed logarithms on one block. -/
def kMixed (e : FVec Ideal S2x8192 .f32) : FVec Ideal S2x8192 .f32 :=
  log (addf (mulf (broadcast S2x8192 (Named.named Cert.KernelIdeal.κ "keep" 0x3F733333#32))
      (divf e (broadcastTo S2x8192 (shapeCast S1x8192
        (multiReduction .add [0] S8192 e 0x00000000#32 reduces_S2x8192_S8192 (.inl rfl) rfl) shapeCasts_S8192_S1x8192)
        broadcasts_S1x8192_S2x8192)))
    (broadcast S2x8192 (Named.named Cert.KernelIdeal.κ "floor" 0x3B23D70A#32)))

/-- The mixed logarithms at a column and a row of the block. -/
theorem kMixed_apply (z : FVec Ideal S2x8192 .f32) (c : Fin 2) (l : Fin 8192) :
    kMixed (kWeights z) (ix2 c l) = mixed (fun c => z (ix2 c l)) c := by
  pointwise [kMixed, mixed, kWeights_apply, Fin.sum_univ_two, keep_value, floor_value]

/-- The block's mixed logarithms are those of its logits. -/
theorem pay2_value (x : FVec Ideal S8192x128 .f32) (w : FVec Ideal S128x20 .f32) (b : FVec Ideal S1x20 .f32)
    (v : FVec Ideal S20x2 .f32) (a : FVec Ideal S2x1 .f32) (c : Fin 2) (l : Fin 8192) :
    k0_pay2 (F := Ideal) x w b v a (ix2 c l) = mixed (logit (fun i => x (ix2 l i)) (fun i k => w (ix2 i k))
      (fun k => b (ix2 0 k)) (fun k c => v (ix2 k c)) (fun c => a (ix2 c 0))) c := by
  rw [show k0_pay2 (F := Ideal) x w b v a = kMixed (kWeights (kLogits x w b v a)) from rfl, kMixed_apply]
  exact congrArg (mixed · c) (funext fun c => kLogits_apply x w b v a c l)

/-- The block's counters: two for each row. -/
theorem pay3_value (i : grid0.Coords) (c : Fin 2) (l : Fin 8192) :
    k0_pay3 i (ix2 c l) = BitVec.ofNat 32 (2 * (8192 * (i 0).val + l.val) + c.val) := by
  pointwise [k0_pay3]
  simp only [IntOp.addi, IntOp.muli, Scalar.muli]
  rw [show (2#32 : BitVec 32) = BitVec.ofNat 32 2 from rfl, show (8192#32 : BitVec 32) = BitVec.ofNat 32 8192 from rfl,
    ← BitVec.ofNat_mul, ← BitVec.ofNat_add, ← BitVec.ofNat_mul, ← BitVec.ofNat_add, Nat.mul_comm (i 0).val]

/-- The product of a condition's bit and of an equality's is one exactly when both hold. -/
theorem and_word (t : BitVec 32) (p : Prop) [Decidable p] :
    IntOp.muli (BitVec.setWidth 32 (BitVec.ofBool (decide p))) (Scalar.extui (Scalar.cmpi .eq t 1#32)) =
      if t = 1#32 ∧ p then 1#32 else 0#32 := by
  by_cases ht : t = 1#32
  · subst ht
    by_cases hp : p <;> simp [hp] <;> rfl
  · have hb : Scalar.cmpi .eq t 1#32 = 0#1 := by
      show BitVec.ofBool (t == 1#32) = _
      rw [beq_eq_false_iff_ne.mpr ht]; rfl
    rw [hb, if_neg fun h => ht h.1]
    by_cases hp : p <;> simp [hp] <;> rfl

/-- The block's decision at a row, from the random words and the mixed logarithms of its two columns. -/
theorem pay1_value (p u : FVec Ideal S2x8192 .f32) (t : IVec S1x1 32) (l : Fin 8192) (w : Fin 2 → BitVec 32)
    (hu : ∀ c : Fin 2, u (ix2 c l) = Ideal.ofBits .f32 (IntOp.ori (IntOp.shrui .host (w c) 9#32) 1065353216#32)) :
    k0_pay1 (F := Ideal) p u k0_pay42 t (ix3 0 0 l) = decide1 (t (ix2 0 0)) (fun c => noise (w c) + p (ix2 c l)) := by
  pointwise [k0_pay1, k0_pay42, decide1, noise, tiny]
  rw [hu 0, hu 1]
  simp only [zero_sub]
  exact and_word _ _

end Cert.Stop

end

end
-- ==== Proof.KernelArray.lean ====
/-
  What the kernel leaves in its array: at each block and row, the decision on that row of the arguments.
-/
module

public import proofs.«01_k».proof.Proof.KernelBlock
public import proofs.«01_k».proof.Proof.Gen.KernelIdeal.Run
public import Idealize.ShloMosaic.Lib.Pipeline.ValueKit

@[expose] public section

set_option maxRecDepth 16384

noncomputable section

namespace Cert.Stop

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The step that the kernel reads is the argument, reshaped. -/
theorem entry_step : V m c main_call0_v0 = shapeCast S1x1 (m ((c : Thread nD τ).loc main_arg1)) shapeCasts_S_S1x1 := by
  simp only [V, V0, hostOps0, TRef.reshape, TRef.toBuf, TRef.ofBuf, cast_eq, List.flatten_cons, List.flatten_nil,
    List.append_nil, List.cons_append, List.nil_append]
  after_results <;> rfl

/-- The first layer's bias that the kernel reads is the argument, reshaped. -/
theorem entry_bias : V m c main_call0_v1 = shapeCast S1x20 (m ((c : Thread nD τ).loc main_arg4)) shapeCasts_S20_S1x20 := by
  simp only [V, V0, hostOps0, TRef.reshape, TRef.toBuf, TRef.ofBuf, cast_eq, List.flatten_cons, List.flatten_nil,
    List.append_nil, List.cons_append, List.nil_append]
  after_results <;> rfl

/-- The second layer's bias that the kernel reads is the argument, reshaped. -/
theorem entry_offset : V m c main_call0_v2 = shapeCast S2x1 (m ((c : Thread nD τ).loc main_arg6)) shapeCasts_S2_S2x1 := by
  simp only [V, V0, hostOps0, TRef.reshape, TRef.toBuf, TRef.ofBuf, cast_eq, List.flatten_cons, List.flatten_nil,
    List.append_nil, List.cons_append, List.nil_append]
  after_results <;> rfl

/-- The arguments as arrays. -/
abbrev argX : FVec Ideal S16384x128 .f32 := m ((c : Thread nD τ).loc main_arg0)
@[inherit_doc argX] abbrev argT : IVec S_ 32 := m ((c : Thread nD τ).loc main_arg1)
@[inherit_doc argX] abbrev argW : FVec Ideal S128x20 .f32 := m ((c : Thread nD τ).loc main_arg3)
@[inherit_doc argX] abbrev argB : FVec Ideal S20 .f32 := m ((c : Thread nD τ).loc main_arg4)
@[inherit_doc argX] abbrev argV : FVec Ideal S20x2 .f32 := m ((c : Thread nD τ).loc main_arg5)
@[inherit_doc argX] abbrev argA : FVec Ideal S2 .f32 := m ((c : Thread nD τ).loc main_arg6)

/-- The decision on a row of the arguments. -/
def decision (r : Fin 16384) : BitVec 32 :=
  decide1 (argT m c ix0) (score (logit (fun i => argX m c (ix2 r i)) (fun i k => argW m c (ix2 i k))
    (fun k => argB m c (ix1 k)) (fun k c' => argV m c (ix2 k c')) (fun c' => argA m c (ix1 c'))) r)

/-- The row of the arguments that an entry of the kernel's array stands for. -/
def rowOf (y : S2x1x8192.Idx) : Fin 16384 :=
  ⟨8192 * (y 0).val + (y 2).val, by
    have h0 : (y 0).val < 2 := (y 0).isLt
    have h2 : (y 2).val < 8192 := (y 2).isLt
    omega⟩

/-- Where each block lies at a grid point. -/
theorem block_index : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- The blocks that a grid point reads. -/
abbrev blkX (t : Fin cfg0.N) : FVec Ideal S8192x128 .f32 := iblk m c 0 t
@[inherit_doc blkX] abbrev blkW (t : Fin cfg0.N) : FVec Ideal S128x20 .f32 := iblk m c 1 t
@[inherit_doc blkX] abbrev blkB (t : Fin cfg0.N) : FVec Ideal S1x20 .f32 := iblk m c 2 t
@[inherit_doc blkX] abbrev blkV (t : Fin cfg0.N) : FVec Ideal S20x2 .f32 := iblk m c 3 t
@[inherit_doc blkX] abbrev blkA (t : Fin cfg0.N) : FVec Ideal S2x1 .f32 := iblk m c 4 t
@[inherit_doc blkX] abbrev blkT (t : Fin cfg0.N) : IVec S1x1 32 := iblk m c 5 t

/-- The block of the first argument: its rows from 8192 times the point's number on. -/
theorem blkX_apply (t : Fin cfg0.N) (l : Fin 8192) (i : Fin 128) (r : Fin 16384) (hr : r.val = 8192 * t.val + l.val) :
    blkX m c t (ix2 l i) = argX m c (ix2 r i) := by
  unfold blkX argX
  blk_ext [iblk, V, block_index t]

/-- The first layer's matrix, whole. -/
theorem blkW_apply (t : Fin cfg0.N) (i : Fin 128) (k : Fin 20) : blkW m c t (ix2 i k) = argW m c (ix2 i k) := by
  unfold blkW argW
  blk_ext [iblk, V, block_index t]

/-- The first layer's bias, whole. -/
theorem blkB_apply (t : Fin cfg0.N) (k : Fin 20) : blkB m c t (ix2 0 k) = argB m c (ix1 k) := by
  unfold blkB
  rw [show iblk m c 2 t = V m c main_call0_v1 by blk_ext! [iblk, block_index t], entry_bias m c]
  pointwise [argB]

/-- The second layer's matrix, whole. -/
theorem blkV_apply (t : Fin cfg0.N) (k : Fin 20) (c' : Fin 2) : blkV m c t (ix2 k c') = argV m c (ix2 k c') := by
  unfold blkV argV
  blk_ext [iblk, V, block_index t]

/-- The second layer's bias, whole. -/
theorem blkA_apply (t : Fin cfg0.N) (c' : Fin 2) : blkA m c t (ix2 c' 0) = argA m c (ix1 c') := by
  unfold blkA
  rw [show iblk m c 4 t = V m c main_call0_v2 by blk_ext! [iblk, block_index t], entry_offset m c]
  pointwise [argA]

/-- The step. -/
theorem blkT_apply (t : Fin cfg0.N) : blkT m c t (ix2 0 0) = argT m c ix0 := by
  unfold blkT
  rw [show iblk m c 5 t = V m c main_call0_v0 by blk_ext! [iblk, block_index t], entry_step m c]
  pointwise [argT]

/-- A grid point's coordinate is its number. -/
theorem coord_val (t : Fin cfg0.N) : (grid0.coords t 0).val = t.val :=
  (by decide +kernel : ∀ t : Fin grid0.N, (grid0.coords t 0).val = t.val) t

/-- The block that a grid point leaves holds the decisions on its rows. -/
theorem block_value (t : Fin cfg0.N) (l : Fin 8192) (r : Fin 16384) (hr : r.val = 8192 * t.val + l.val)
    (u : FVec Ideal S2x8192 .f32)
    (hu : ∀ j, u j = Ideal.ofBits .f32
      (IntOp.ori (IntOp.shrui .host (word (k0_pay3 (grid0.coords t) j)) 9#32) 1065353216#32)) :
    k0_pay1 (F := Ideal) (k0_pay2 (blkX m c t) (blkW m c t) (blkB m c t) (blkV m c t) (blkA m c t)) u k0_pay42 (blkT m c t)
      (ix3 0 0 l) = decision m c r := by
  rw [pay1_value _ u _ l _ (fun c' => hu (ix2 c' l)), blkT_apply]
  refine congrArg (decide1 _) (funext fun c' => ?_)
  rw [pay2_value, pay3_value, coord_val, ← hr, score]
  simp only [blkX_apply m c t l _ r hr, blkW_apply, blkB_apply, blkV_apply, blkA_apply]

/-- The kernel's array holds the decisions. -/
theorem array_value : Cert.KernelIdeal.Value.reg_main_call0_v3 m c = fun y => decision m c (rowOf y) := by
  refine (dats m 0 c).arrAt_eq_of_covers 6 _ (by decide +kernel) fun t hf y => ?_
  blk_simp
  rw [after0_6]
  frame_out
  obtain ⟨l, hl⟩ : ∃ l : Fin 8192, y = ix3 (0 : Fin 1) (0 : Fin 1) l := ⟨y 2, by blk_ext⟩
  rw [hl]
  refine block_value m c t l _ ?_ _ (unit_value (k0_pay3 (grid0.coords t)) rfl rfl rfl rfl rfl)
  show 8192 * _ + _ = _
  blk_simp [block_index t]
  simp

/-- The kernel's result holds the decision on each row. -/
theorem result_value (r : Fin 16384) :
    shapeCast S16384x1 (show IVec S2x1x8192 32 from Cert.KernelIdeal.Value.reg_main_call0_v3 m c)
      shapeCasts_S2x1x8192_S16384x1 (ix2 r 0) = decision m c r := by
  rw [array_value]
  pointwise []
  exact congrArg (decision m c) (Fin.ext (Nat.div_add_mod r.val 8192))

end Cert.Stop

end

end
-- ==== Proof.RefScore.lean ====
/-
  The reference's float operations, read at a row and a column: the logits, the mixed logarithms, the noise of a word.
-/
module

public import proofs.«01_k».proof.Proof.Spec
public import proofs.«01_k».proof.Proof.RefMain

@[expose] public section

set_option maxRecDepth 16384

noncomputable section

namespace Cert.Stop

open Idealize.ShloMosaic Idealize.ShloMosaic.StableHlo Idealize.SL.Sem
open Cert.ReferenceIdeal
open Facts₀ Facts

variable {W : RVal}

/-- The buffer `x`'s numbers. -/
abbrev nums {S : Shape} (W : RVal) (x : FRef S) : FVec Ideal S .f32 := val W x

/-- The two layers' operations on whole tensors. -/
def refLogits (x : FVec Ideal S16384x128 .f32) (w : FVec Ideal S128x20 .f32) (b : FVec Ideal S20 .f32)
    (v : FVec Ideal S20x2 .f32) (a : FVec Ideal S2 .f32) : FVec Ideal S16384x2 .f32 :=
  addf (Host.dotGeneral dot_S16384x20_S20x2_S16384x2_1_0_0_1_n_n none
      (maximumf (addf (Host.dotGeneral dot_S16384x128_S128x20_S16384x20_1_0_0_1_n_n none x w)
          (broadcastInDim S16384x20 ![0, 1] bcast_S1x20_S16384x20_0_1 (broadcastInDim S1x20 ![1] bcast_S20_S1x20_1 b)))
        (broadcastInDim S16384x20 ![] bcast_S_S16384x20 (constant S_ .f32 0x00000000#32))) v)
    (broadcastInDim S16384x2 ![0, 1] bcast_S1x2_S16384x2_0_1 (broadcastInDim S1x2 ![1] bcast_S2_S1x2_1 a))

/-- The two layers at a row and a column. -/
theorem refLogits_apply (x : FVec Ideal S16384x128 .f32) (w : FVec Ideal S128x20 .f32) (b : FVec Ideal S20 .f32)
    (v : FVec Ideal S20x2 .f32) (a : FVec Ideal S2 .f32) (r : Fin 16384) (c : Fin 2) :
    refLogits x w b v a (ix2 r c) = logit (fun i => x (ix2 r i)) (fun i k => w (ix2 i k)) (fun k => b (ix1 k))
      (fun k c => v (ix2 k c)) (fun c => a (ix1 c)) c := by
  pointwise [refLogits, logit]

/-- The two layers' buffers. -/
theorem mlp_value (H : mlpLine.Forall (Cmd.Holds W)) :
    nums W (.of main_v26) = refLogits (nums W (.of main_arg0)) (nums W (.of main_arg3)) (nums W (.of main_arg4))
      (nums W (.of main_arg5)) (nums W (.of main_arg6)) := by
  simp only [mlpLine, List.Forall, Cmd.Holds] at H
  obtain ⟨h17, h18, h19, h20, hc, h21, h22, h23, h24, h25, h26⟩ := H
  rw [nums, h26, h25, h24, h23, h22, h21, hc, h20, h19, h18, h17]
  rfl

/-- The softmax's operations on whole tensors: the weights. -/
def refWeights (l : FVec Ideal S16384x2 .f32) : FVec Ideal S16384x2 .f32 :=
  Host.exp (subf l (broadcastInDim S16384x2 ![0, 1] bcast_S16384x1_S16384x2_0_1
    (broadcastInDim S16384x1 ![0] bcast_S16384_S16384x1_0
      (maximumf (broadcastInDim S16384 ![] bcast_S_S16384 (constant S_ .f32 0xFF800000#32))
        (Host.reduce FloatOps.maximumf l (constant S_ .f32 0xFF800000#32) reducesTo_S16384x2_S16384_d1 h_S_)))))

/-- The weights at a row and a column. -/
theorem refWeights_apply (l : FVec Ideal S16384x2 .f32) (r : Fin 16384) (c : Fin 2) :
    refWeights l (ix2 r c) = weight (fun c => l (ix2 r c)) c := by
  pointwise [refWeights, weight, ofBits_bot, fold_max_two]
  simp

/-- The softmax's operations on whole tensors, mixed with the floor. -/
def refMixed (e : FVec Ideal S16384x2 .f32) : FVec Ideal S16384x2 .f32 :=
  have z : FVec Ideal S_ .f32 := Host.divf (constant S_ .f32 0x3F800000#32) (constant S_ .f32 0x41A00000#32)
  Host.log (addf (mulf (broadcastInDim S16384x2 ![] bcast_S_S16384x2 (subf (constant S_ .f32 0x3F800000#32) z))
      (Host.divf e (broadcastInDim S16384x2 ![0, 1] bcast_S16384x1_S16384x2_0_1
        (broadcastInDim S16384x1 ![0] bcast_S16384_S16384x1_0
          (Host.reduceAdd e (constant S_ .f32 0x00000000#32) reducesTo_S16384x2_S16384_d1 h_S_)))))
    (broadcastInDim S16384x2 ![] bcast_S_S16384x2 (mulf z z)))

/-- One twentieth. -/
theorem div_twenty : Ideal.div 1 ((20 : ℝ) : EReal) = ((1 / 20 : ℝ) : EReal) := by
  unfold Ideal.div
  rw [if_neg (by simp), one_mul, ← EReal.coe_inv]
  norm_num

/-- The mixed logarithms at a row and a column, of weights that are a row's. -/
theorem refMixed_apply (l : FVec Ideal S16384x2 .f32) (r : Fin 16384) (c : Fin 2) :
    refMixed (refWeights l) (ix2 r c) = mixed (fun c => l (ix2 r c)) c := by
  pointwise [refMixed, mixed, refWeights_apply, ofBits_twenty, div_twenty, Fin.sum_univ_two]
  rw [show (1 : EReal) - ((1 / 20 : ℝ) : EReal) = ((19 / 20 : ℝ) : EReal) by
      rw [← EReal.coe_one, ← EReal.coe_sub]; norm_num,
    show ((1 / 20 : ℝ) : EReal) * ((1 / 20 : ℝ) : EReal) = ((1 / 400 : ℝ) : EReal) by
      rw [← EReal.coe_mul]; norm_num]

/-- The softmax's and the floor's buffers. -/
theorem soft_value (H : softLine.Forall (Cmd.Holds W)) (H' : floorLine.Forall (Cmd.Holds W)) :
    nums W (.of main_v46) = refMixed (refWeights (nums W (.of main_v26))) := by
  simp only [softLine, List.Forall, Cmd.Holds] at H
  simp only [floorLine, List.Forall, Cmd.Holds] at H'
  obtain ⟨c3, h27, c4, h28, h29, h30, h31, h32, h33, c5, h34, h35, h36, h37⟩ := H
  obtain ⟨c6, c7, h38, c8, h39, h40, h41, c9, c10, h42, h43, h44, h45, h46⟩ := H'
  rw [nums, h46, h45, h44, h43, h42, c10, c9, h41, h40, h39, c8, h38, c7, c6, h37, h36, h35, h34, c5, h33, h32, h31, h30,
    h29, h28, c4, h27, c3]
  rfl

/-- The noise's operations on whole tensors, from the random words. -/
def refNoise (w : IVec S16384x2 32) : FVec Ideal S16384x2 .f32 :=
  have lo : FVec Ideal S1x1 .f32 := broadcastInDim S1x1 ![] bcast_S_S1x1 (constant S_ .f32 0x00800000#32)
  have hi : FVec Ideal S1x1 .f32 := broadcastInDim S1x1 ![] bcast_S_S1x1 (constant S_ .f32 0x3F800000#32)
  have u : FVec Ideal S16384x2 .f32 := bitcastToFloat .f32
    (ori (Host.shrui w (broadcastInDim S16384x2 ![] bcast_S_S16384x2 (constantI S_ 32 9#32)))
      (broadcastInDim S16384x2 ![] bcast_S_S16384x2 (constantI S_ 32 1065353216#32)))
  Host.negf (Host.log (Host.negf (Host.log (maximumf
    (broadcastInDim S16384x2 ![0, 1] bcast_S1x1_S16384x2_0_1 lo)
    (addf (mulf (subf u (broadcastInDim S16384x2 ![] bcast_S_S16384x2 (constant S_ .f32 0x3F800000#32)))
        (broadcastInDim S16384x2 ![0, 1] bcast_S1x1_S16384x2_0_1 (subf hi lo)))
      (broadcastInDim S16384x2 ![0, 1] bcast_S1x1_S16384x2_0_1 lo))))))

/-- The noise at a row and a column. -/
theorem refNoise_apply (w : IVec S16384x2 32) (r : Fin 16384) (c : Fin 2) :
    refNoise w (ix2 r c) = noise (w (ix2 r c)) := by
  pointwise [refNoise, noise, tiny]

/-- The noise's buffers. -/
theorem noise_value (k : WRef S2) (φ : fn_gumbel.Bufs) (H0 : (gumbelPre φ).Forall (Cmd.Holds W))
    (H1 : (unifPre k φ.cst φ.cst_0 φ.call0).Forall (Cmd.Holds W)) (H2 : (unifPost φ.call0).Forall (Cmd.Holds W))
    (H3 : (gumbelPost φ).Forall (Cmd.Holds W)) :
    nums W φ.v4 = refNoise (xori (words W φ.call0.call0.v171) (words W φ.call0.call0.v175)) := by
  simp only [gumbelPre, List.Forall, Cmd.Holds] at H0
  simp only [unifPre, List.Forall, Cmd.Holds] at H1
  simp only [unifPost, List.Forall, Cmd.Holds] at H2
  simp only [gumbelPost, List.Forall, Cmd.Holds] at H3
  obtain ⟨e, e0⟩ := H0
  obtain ⟨u0, u1, u2, -⟩ := H1
  obtain ⟨h19, c2, h20, h21, c3, h22, h23, h24, c, h25, h26, h27, h28, h29, h30, h31, h32, h33⟩ := H2
  obtain ⟨g1, g2, g3, g4⟩ := H3
  rw [nums, g4, g3, g2, g1, h33, h32, h31, h30, h29, h28, h27, h26, h25, c, h24, h23, h22, c3, h21, h20, c2, h19, u2, u1,
    u0, e, e0]
  rfl

end Cert.Stop

end

end
-- ==== Proof.RefArgmax.lean ====
/-
  The index of the larger of a row's two entries, as the reference finds it: a fold over the row.
-/
module

public import proofs.«01_k».proof.Proof.RefScore
public import Idealize.ShloMosaic.PureOps.Ideal.Laws

@[expose] public section

set_option maxRecDepth 16384

noncomputable section

namespace Cert.Stop

open Idealize.ShloMosaic Idealize.ShloMosaic.StableHlo Idealize.SL.Sem
open Cert.ReferenceIdeal
open Facts₀ Facts

variable {W : RVal}

/-- A row's entries in the order in which a tensor is read: its two columns. -/
theorem row_fiber (r : Fin 16384) :
    ((List.finRange S16384x2.numel).filter fun n =>
        Shape.ReducesTo.drop reducesTo_S16384x2_S16384_d1 (S16384x2.rowMajor.symm n) = ix1 r)
      = [S16384x2.rowMajor (ix2 r 0), S16384x2.rowMajor (ix2 r 1)] := by
  have hlt : S16384x2.rowMajor (ix2 r 0) < S16384x2.rowMajor (ix2 r 1) := by
    rw [Fin.lt_def, Shape.rowMajor_val_two, Shape.rowMajor_val_two]
    exact Nat.lt_succ_self _
  have hdrop : ∀ i : S16384x2.Idx, (Shape.ReducesTo.drop reducesTo_S16384x2_S16384_d1 i = ix1 r) ↔ i 0 = r := fun i => by
    have hv : (Shape.ReducesTo.drop reducesTo_S16384x2_S16384_d1 i 0 : ℕ) = i 0 := Shape.ReducesTo.drop_apply_val _ i 0
    constructor
    · intro e; rw [e] at hv; exact Fin.ext hv.symm
    · intro e; rw [eq_ix1 (Shape.ReducesTo.drop reducesTo_S16384x2_S16384_d1 i)]
      exact congrArg ix1 (Fin.ext (hv.trans (congrArg Fin.val e)))
  have hmem : ∀ n, n ∈ ((List.finRange S16384x2.numel).filter fun n =>
      Shape.ReducesTo.drop reducesTo_S16384x2_S16384_d1 (S16384x2.rowMajor.symm n) = ix1 r)
      ↔ n ∈ [S16384x2.rowMajor (ix2 r 0), S16384x2.rowMajor (ix2 r 1)] := fun n => by
    rw [List.mem_filter, decide_eq_true_iff, hdrop, List.mem_cons, List.mem_singleton, ← Equiv.symm_apply_eq,
      ← Equiv.symm_apply_eq]
    refine ⟨fun h => ?_, ?_⟩
    · rw [eq_ix2 (S16384x2.rowMajor.symm n), h.2]
      have two : ∀ c : Fin 2, ix2 r c = ix2 r 0 ∨ ix2 r c = ix2 r 1 := fun c => by
        rcases (show c = 0 ∨ c = 1 by omega) with h | h
        · exact .inl (congrArg (ix2 r) h)
        · exact .inr (congrArg (ix2 r) h)
      exact two _
    · rintro (h | h) <;> exact ⟨List.mem_finRange n, by rw [h]; rfl⟩
  refine List.Perm.eq_of_pairwise (le := (· < ·)) (fun a b _ _ h h' => absurd h (lt_asymm h')) ?_ ?_ ?_
  · exact List.Pairwise.filter _ (List.pairwise_lt_finRange _)
  · exact List.pairwise_pair.mpr hlt
  · exact (List.perm_ext_iff_of_nodup ((List.nodup_finRange _).filter _) (by simpa using hlt.ne)).mpr hmem

/-- Of two numbers the fold's index is 0 exactly when the second is not the larger. -/
theorem reducer_two (a b : EReal) :
    ((reducer_argmax_f32_i32 (F := Ideal) (reducer_argmax_f32_i32 (F := Ideal) (⊥, 0#32) (a, 0#32)) (b, 1#32)).2 = 0#32)
      ↔ b ≤ a := by
  have h0 : reducer_argmax_f32_i32 (F := Ideal) (⊥, 0#32) (a, 0#32) = (a, 0#32) := by
    simp only [reducer_argmax_f32_i32, Ideal.cmpf_def, Ideal.cmp]
    by_cases h : a = ⊥
    · subst h; simp [Scalar.select, IntOp.ori]
    · simp [Scalar.select, IntOp.ori]
  rw [h0]
  simp only [reducer_argmax_f32_i32, Ideal.cmpf_def, Ideal.cmp]
  rcases lt_trichotomy a b with h | h | h
  · simp [Scalar.select, IntOp.ori, IntOp.andi, h.not_gt, h.ne, h, h.not_ge]
  · subst h; simp [Scalar.select, IntOp.ori, IntOp.andi, IntOp.cmpi]
  · simp [Scalar.select, IntOp.ori, IntOp.andi, h.le, h, h.ne']

/-- The index buffer at a row is 0 exactly when the row's second entry is not the larger. -/
theorem argmax_value {x : FRef S16384x2} {φ : fn_argmax.Bufs} (H : (argmaxLine (F := Ideal) x φ).Forall (Cmd.Holds W))
    (r : Fin 16384) : (words W φ.v1_1 (ix1 r) = 0#32) ↔ nums W x (ix2 r 1) ≤ nums W x (ix2 r 0) := by
  simp only [argmaxLine, List.Forall, Cmd.Holds] at H
  obtain ⟨h0, hb, hc, -, h1⟩ := H
  rw [words, h1, h0, hb, hc]
  change (Host.argReduce reducer_argmax_f32_i32 (nums W x) (iotaInDim S16384x2 32 1) (constant S_ .f32 0xFF800000#32)
    (constantI S_ 32 0#32) reducesTo_S16384x2_S16384_d1 h_S_ (ix1 r)).2 = 0#32 ↔ _
  rw [Ideal.argReduce_eq_reduce2, Host.reduce2, row_fiber]
  simp only [List.foldl, Equiv.symm_apply_apply]
  rw [← reducer_two (nums W x (ix2 r 0)) (nums W x (ix2 r 1)), ← ofBits_bot]
  rfl

end Cert.Stop

end

end
-- ==== Proof.RefWords.lean ====
/-
  The reference's random words: the seed's key, the subkey that the split makes of it, the counters, and the word of
  each entry.
-/
module

public import proofs.«01_k».proof.Proof.RefScore

@[expose] public section

set_option maxRecDepth 16384

noncomputable section

namespace Cert.Stop

open Idealize.ShloMosaic Idealize.ShloMosaic.StableHlo Idealize.SL.Sem
open Cert.ReferenceIdeal
open Facts₀ Facts

variable {W : RVal}

/-- The seed's key is the words 0 and 42. -/
theorem key_value (H : (keyLine (F := Ideal)).Forall (Cmd.Holds W)) :
    words W (.of main_v6) (ix1 0) = 0#32 ∧ words W (.of main_v6) (ix1 1) = 42#32 := by
  simp only [keyLine, List.Forall, Cmd.Holds] at H
  obtain ⟨c, c0, h0, h1, h2, c1, h3, h4, h5, h6⟩ := H
  rw [words, h6, h5, h4, h3, c1, h2, h1, h0, c0, c]
  constructor
  · change concatenate S2 0 [⟨S1, _⟩, ⟨S1, _⟩] concatenates_S1_S1_S2_d0 (ix1 0) = _
    pointwise
    decide +kernel
  · change concatenate S2 0 [⟨S1, _⟩, ⟨S1, _⟩] concatenates_S1_S1_S2_d0 (ix1 1) = _
    pointwise
    decide +kernel

/-- The words of a key of two, as the program takes them apart. -/
theorem key_parts {k : WRef S2} {a b : WRef S1} {x y : WRef S_}
    (h0 : val W a = extractStridedSlice S1 ![0] (words W k) slices_S2_S1_0)
    (h1 : Cmd.Holds W (.resh a x (rfl : (.i32 : EltTy) = .i32) shapeCasts_S1_S_))
    (h2 : val W b = extractStridedSlice S1 ![1] (words W k) slices_S2_S1_1)
    (h3 : Cmd.Holds W (.resh b y (rfl : (.i32 : EltTy) = .i32) shapeCasts_S1_S_)) :
    wordOf W x = words W k (ix1 0) ∧ wordOf W y = words W k (ix1 1) := by
  simp only [Cmd.Holds] at h1 h3
  constructor
  · rw [wordOf, words, h1, h0]
    change shapeCast S_ (extractStridedSlice S1 ![0] (words W k) slices_S2_S1_0) shapeCasts_S1_S_ ix0 = _
    pointwise
  · rw [wordOf, words, h3, h2]
    change shapeCast S_ (extractStridedSlice S1 ![1] (words W k) slices_S2_S1_1) shapeCasts_S1_S_ ix0 = _
    pointwise

/-- The first row that the split leaves: the subkey. -/
theorem split_value {k : WRef S2} {φ : fn_threefry_split.Bufs} (H : (splitLine k φ).Forall (Cmd.Holds W))
    (h0 : words W k (ix1 0) = 0#32) (h1 : words W k (ix1 1) = 42#32) :
    (show IVec S2x2 32 from val W φ.v14) (ix2 0 0) = 1832780943#32
      ∧ (show IVec S2x2 32 from val W φ.v14) (ix2 0 1) = 270669613#32 := by
  obtain ⟨H0, H⟩ := forall_append H
  obtain ⟨H1, H2⟩ := forall_append H
  simp only [splitPre, List.Forall] at H0
  simp only [splitPost, List.Forall, Cmd.Holds] at H2
  obtain ⟨s0, s1, s2, s3, i4, c, v5, v6, c0, v7, v8, v9, v10⟩ := H0
  obtain ⟨v12, v13, v14⟩ := H2
  obtain ⟨ka, kb⟩ := key_parts s0 s1 s2 s3
  have e := tfLine_value H1 (ix1 0)
  simp only [Cmd.Holds] at i4 c v5 v6 c0 v7 v8 v9 v10
  have lo : words W φ.v9 (ix1 0) = 0#32 := by
    rw [words, v9, v6, v5, c, i4]
    decide +kernel
  have hi : words W φ.v10 (ix1 0) = 0#32 := by
    rw [words, v10, v8, v7, c0, v6, v5, c, i4]
    decide +kernel
  rw [ka, kb, h0, h1, lo, hi, threefry_subkey] at e
  rw [v14, v13, v12]
  constructor
  · refine Eq.trans ?_ (congrArg Prod.fst e)
    change concatenate S2x2 1 [⟨S2x1, broadcastInDim S2x1 ![0] bcast_S2_S2x1_0 (words W φ.call0.v171)⟩,
      ⟨S2x1, broadcastInDim S2x1 ![0] bcast_S2_S2x1_0 (words W φ.call0.v175)⟩] concatenates_S2x1_S2x1_S2x2_d1 (ix2 0 0)
      = words W φ.call0.v171 (ix1 0)
    pointwise
  · refine Eq.trans ?_ (congrArg Prod.snd e)
    change concatenate S2x2 1 [⟨S2x1, broadcastInDim S2x1 ![0] bcast_S2_S2x1_0 (words W φ.call0.v171)⟩,
      ⟨S2x1, broadcastInDim S2x1 ![0] bcast_S2_S2x1_0 (words W φ.call0.v175)⟩] concatenates_S2x1_S2x1_S2x2_d1 (ix2 0 1)
      = words W φ.call0.v175 (ix1 0)
    pointwise

/-- The row that the main program takes of the split. -/
theorem row_value (H : (rowLine (F := Ideal)).Forall (Cmd.Holds W)) (c : Fin 2) :
    words W (.of main_v9) (ix1 c) = (show IVec S2x2 32 from val W (.of main_v7 : TRef sig ⟨S2x2, .i32⟩)) (ix2 0 c) := by
  simp only [rowLine, List.Forall, Cmd.Holds] at H
  obtain ⟨h8, h9, -⟩ := H
  rw [words, h9, h8]
  change shapeCast S2 (extractStridedSlice S1x2 ![0, 0] (show IVec S2x2 32 from val W (.of main_v7 : TRef sig ⟨S2x2, .i32⟩)) slices_S2x2_S1x2_0_0)
    shapeCasts_S1x2_S2 (ix1 c) = _
  pointwise

/-- The counter of an entry, in 64 bits. -/
def counter (r c : ℕ) : BitVec 64 :=
  IntOp.addi (IntOp.muli 2#64 (BitVec.ofNat 64 r)) (IntOp.muli 1#64 (BitVec.ofNat 64 c))

/-- Its lower word is the entry's number. -/
theorem counter_lo (r c : ℕ) : (counter r c).setWidth 32 = BitVec.ofNat 32 (2 * r + c) := by
  apply BitVec.eq_of_toNat_eq
  simp only [counter, IntOp.addi, IntOp.muli, BitVec.toNat_setWidth, BitVec.toNat_add, BitVec.toNat_mul, BitVec.toNat_ofNat]
  omega

/-- Its upper word is zero. -/
theorem counter_hi (r : Fin 16384) (c : Fin 2) : (IntOp.shrui .host (counter r c) 32#64).setWidth 32 = 0#32 := by
  have h : (counter r c).toNat < 2 ^ 32 := by
    simp only [counter, IntOp.addi, IntOp.muli, BitVec.toNat_add, BitVec.toNat_mul, BitVec.toNat_ofNat]
    omega
  apply BitVec.eq_of_toNat_eq
  simp only [IntOp.shrui]
  simp [BitVec.toNat_ushiftRight, Nat.shiftRight_eq_div_pow]
  omega

/-- The word of each entry. -/
theorem unif_words {k : WRef S2} {hi lo : FRef S_} {φ : fn_uniform.Bufs} (H : (unifPre k hi lo φ).Forall (Cmd.Holds W))
    (H' : (allLine φ.v4 φ.v6 φ.v17 φ.v16 φ.call0).Forall (Cmd.Holds W))
    (h0 : words W k (ix1 0) = 1832780943#32) (h1 : words W k (ix1 1) = 270669613#32) (r : Fin 16384) (c : Fin 2) :
    xori (words W φ.call0.v171) (words W φ.call0.v175) (ix2 r c) = word (BitVec.ofNat 32 (2 * r + c)) := by
  simp only [unifPre, List.Forall] at H
  obtain ⟨-, -, -, s0, s1, s2, s3, i7, i8, k0, v9, v10, k1, v11, v12, v13, k2, v14, v15, v16, v17⟩ := H
  obtain ⟨ka, kb⟩ := key_parts s0 s1 s2 s3
  have e := tfLine_value H' (ix2 r c)
  simp only [Cmd.Holds] at i7 i8 k0 v9 v10 k1 v11 v12 v13 k2 v14 v15 v16 v17
  have l : words W φ.v16 (ix2 r c) = BitVec.ofNat 32 (2 * r + c) := by
    rw [words, v16, v13, v12, v11, k1, v10, v9, k0, i8, i7]
    exact counter_lo r c
  have h : words W φ.v17 (ix2 r c) = 0#32 := by
    rw [words, v17, v15, v14, k2, v13, v12, v11, k1, v10, v9, k0, i8, i7]
    exact counter_hi r c
  rw [ka, kb, h0, h1, l, h] at e
  change IntOp.xori (words W φ.call0.v171 (ix2 r c)) (words W φ.call0.v175 (ix2 r c)) = _
  rw [word]
  exact congrArg₂ IntOp.xori (congrArg Prod.fst e) (congrArg Prod.snd e)

end Cert.Stop

end

end
-- ==== Proof.RefValue.lean ====
/-
  The reference's result: at every row the decision of the row's scores.
-/
module

public import proofs.«01_k».proof.Proof.RefArgmax
public import proofs.«01_k».proof.Proof.RefWords
public import proofs.«01_k».proof.Proof.RefRun

@[expose] public section

set_option maxRecDepth 16384

noncomputable section

namespace Cert.Stop

open Idealize.ShloMosaic Idealize.ShloMosaic.StableHlo Idealize.SL.Sem
open Cert.ReferenceIdeal
open Facts₀ Facts

variable {W : RVal}

/-- A word's number is one exactly when the word is. -/
theorem toInt_eq_one (t : BitVec 32) : ((t.toInt : ℝ) : EReal) = 1 ↔ t = 1#32 := by
  rw [← EReal.coe_one, EReal.coe_eq_coe_iff, ← Int.cast_one, Int.cast_inj]
  constructor
  · intro h
    apply BitVec.eq_of_toInt_eq
    rw [h]; rfl
  · rintro rfl; rfl

/-- The mask's operations on whole tensors. -/
def refMask (t : IVec S_ 32) : IVec S16384x1 32 :=
  extui 32 (cmpf .oeq (broadcastInDim S16384x1 ![] bcast_S_S16384x1 (sitofp .f32 t : FVec Ideal S_ .f32))
    (broadcastInDim S16384x1 ![] bcast_S_S16384x1 (constant S_ .f32 0x3F800000#32))) natLt_1_32

/-- The mask at every row: one at the first step, else zero. -/
theorem refMask_apply (t : IVec S_ 32) (r : Fin 16384) :
    refMask t (ix2 r 0) = if t (fun i => i.elim0) = 1#32 then 1#32 else 0#32 := by
  pointwise [refMask]
  have h0 : (ix0 : S_.Idx) = fun i => i.elim0 := funext fun i => i.elim0
  rw [h0]
  have h1 : (FloatOps.sitofp (F := Ideal) .f32 (t fun i => i.elim0) = (1 : EReal)) ↔ t (fun i => i.elim0) = 1#32 :=
    toInt_eq_one _
  by_cases h : t (fun i => i.elim0) = 1#32
  · rw [if_pos h, decide_eq_true (h1.mpr h)]; rfl
  · rw [if_neg h, decide_eq_false fun e => h (h1.mp e)]; rfl

/-- The mask's buffer. -/
theorem mask_value (H : (maskLine (F := Ideal)).Forall (Cmd.Holds W)) :
    (show IVec S16384x1 32 from val W (.of main_v16 : TRef sig ⟨S16384x1, .i32⟩)) = refMask (words W (.of main_arg1)) := by
  simp only [maskLine, List.Forall, Cmd.Holds] at H
  obtain ⟨c, h12, h13, h14, h15, h16⟩ := H
  rw [h16, h15, h14, h13, h12, c]
  rfl

/-- The result at a row: the mask times whether the index is 0. -/
theorem pick_value (H : (pickLine (F := Ideal)).Forall (Cmd.Holds W)) (r : Fin 16384) :
    (show IVec S16384x1 32 from val W (.of main_v54 : TRef sig ⟨S16384x1, .i32⟩)) (ix2 r 0)
      = (show IVec S16384x1 32 from val W (.of main_v16 : TRef sig ⟨S16384x1, .i32⟩)) (ix2 r 0)
        * if words W (.of main_v49) (ix1 r) = 0#32 then 1#32 else 0#32 := by
  simp only [pickLine, List.Forall, Cmd.Holds] at H
  obtain ⟨c, h50, h51, h52, h53, h54⟩ := H
  rw [h54, h53, h52, h51, h50, c]
  change (show IVec S16384x1 32 from val W (.of main_v16 : TRef sig ⟨S16384x1, .i32⟩)) (ix2 r 0)
    * broadcastInDim S16384x1 ![0] bcast_S16384_S16384x1_0 (extui 32 (cmpi .eq (words W (.of main_v49))
      (broadcastInDim S16384 ![] bcast_S_S16384 (constantI S_ 32 0#32))) natLt_1_32) (ix2 r 0) = _
  pointwise [IntOp.cmpi]
  by_cases h : words W (.of main_v49) (ix1 r) = 0#32
  · rw [h]; simp
  · rw [if_neg h, beq_eq_false_iff_ne.mpr h]; simp

/-- The reference's result at a row, from the equations of its line: the decision of the row's scores. -/
theorem main_value (H : mainLine.Forall (Cmd.Holds W)) (r : Fin 16384) :
    (show IVec S16384x1 32 from val W (.of main_v54 : TRef sig ⟨S16384x1, .i32⟩)) (ix2 r 0)
      = decide1 (wordOf W (.of main_arg1)) (score (fun c => nums W (.of main_v26) (ix2 r c)) r) := by
  obtain ⟨H0, H1⟩ := forall_append H
  obtain ⟨hkey, H0⟩ := forall_append H0
  obtain ⟨hsplit, H0⟩ := forall_append H0
  obtain ⟨hrow, H0⟩ := forall_append H0
  obtain ⟨hmask, H0⟩ := forall_append H0
  obtain ⟨-, H0⟩ := forall_append H0
  obtain ⟨hsoft, hfloor⟩ := forall_append H0
  obtain ⟨-, H1⟩ := forall_append H1
  obtain ⟨hg, H1⟩ := forall_append H1
  obtain ⟨g0, hg⟩ := forall_append hg
  obtain ⟨hu, g3⟩ := forall_append hg
  obtain ⟨g1, hu⟩ := forall_append hu
  obtain ⟨hall, g2⟩ := forall_append hu
  obtain ⟨hadd, H1⟩ := forall_append H1
  obtain ⟨harg, hpick⟩ := forall_append H1
  have hs := split_value hsplit (key_value hkey).1 (key_value hkey).2
  have hw := unif_words g1 hall ((row_value hrow 0).trans hs.1) ((row_value hrow 1).trans hs.2)
  have hscore : ∀ c : Fin 2, nums W (.of main_v48) (ix2 r c) = score (fun c => nums W (.of main_v26) (ix2 r c)) r c := fun c => by
    have e : nums W (.of main_v48) = addf (nums W (.of main_v47)) (nums W (.of main_v46)) := hadd
    rw [e]
    change nums W (.of main_v47) (ix2 r c) + nums W (.of main_v46) (ix2 r c) = _
    rw [score, soft_value hsoft hfloor, refMixed_apply, ← hw r c, ← refNoise_apply]
    exact congrArg (· + _) (congrFun (noise_value _ main_call1 g0 g1 g2 g3) (ix2 r c))
  have ha : (words W (.of main_v49) (ix1 r) = 0#32) ↔ _ := argmax_value harg r
  rw [hscore, hscore] at ha
  rw [pick_value hpick, mask_value hmask, refMask_apply, decide1, ← wordOf]
  by_cases ht : wordOf W (.of main_arg1) = 1#32 <;>
    by_cases h : score (fun c => nums W (.of main_v26) (ix2 r c)) r 1 ≤ score (fun c => nums W (.of main_v26) (ix2 r c)) r 0
  · rw [if_pos ht, if_pos (ha.mpr h), if_pos ⟨ht, h⟩]; rfl
  · rw [if_pos ht, if_neg fun e => h (ha.mp e), if_neg fun e => h e.2]; rfl
  · rw [if_neg ht, BitVec.zero_mul, if_neg fun e => ht e.1]
  · rw [if_neg ht, BitVec.zero_mul, if_neg fun e => ht e.1]

/-- The reference's logits. -/
theorem main_logits (H : mainLine.Forall (Cmd.Holds W)) :
    nums W (.of main_v26) = refLogits (nums W (.of main_arg0)) (nums W (.of main_arg3)) (nums W (.of main_arg4))
      (nums W (.of main_arg5)) (nums W (.of main_arg6)) := by
  obtain ⟨H0, -⟩ := forall_append H
  obtain ⟨-, H0⟩ := forall_append H0
  obtain ⟨-, H0⟩ := forall_append H0
  obtain ⟨-, H0⟩ := forall_append H0
  obtain ⟨-, H0⟩ := forall_append H0
  obtain ⟨hmlp, -⟩ := forall_append H0
  exact mlp_value hmlp

end Cert.Stop

end

end
-- ==== Proof.RefDecision.lean ====
/-
  What the reference leaves in its result: the decision on each row of the arguments.
-/
module

public import proofs.«01_k».proof.Proof.RefRun
public import proofs.«01_k».proof.Proof.RefValue

@[expose] public section

set_option maxRecDepth 16384

noncomputable section

namespace Cert.Stop

open Idealize.ShloMosaic Idealize.ShloMosaic.StableHlo Idealize.SL.Sem
open Cert.ReferenceIdeal

attribute [local instance] Cert.ReferenceIdeal.Gen.facts

variable (m : (ℓ : Loc nD τ sig) → Buf (Elt Ideal) ℓ) (d : Dev nD)

/-- The numbers of an argument at the end are those at the start. -/
theorem final_nums {S : Shape} (x : FRef S) (h : rank x.ref < 15) :
    nums (final m d) x = x.ofBuf (m ((d.tc : Thread nD τ).loc x.ref)) :=
  congrArg x.ofBuf (final_arg m d x.ref h)

/-- The reference's result holds the decision on each row. -/
theorem ref_value (r : Fin 16384) :
    (show IVec S16384x1 32 from final m d (Proc.devRef .tc main_v54)) (ix2 r 0)
      = decide1 ((show IVec S_ 32 from m ((d.tc : Thread nD τ).loc main_arg1)) ix0)
          (score (logit (fun i => (show FVec Ideal S16384x128 .f32 from m ((d.tc : Thread nD τ).loc main_arg0)) (ix2 r i))
            (fun i k => (show FVec Ideal S128x20 .f32 from m ((d.tc : Thread nD τ).loc main_arg3)) (ix2 i k))
            (fun k => (show FVec Ideal S20 .f32 from m ((d.tc : Thread nD τ).loc main_arg4)) (ix1 k))
            (fun k c => (show FVec Ideal S20x2 .f32 from m ((d.tc : Thread nD τ).loc main_arg5)) (ix2 k c))
            (fun c => (show FVec Ideal S2 .f32 from m ((d.tc : Thread nD τ).loc main_arg6)) (ix1 c))) r) := by
  have H := final_holds m d
  refine (main_value H r).trans ?_
  rw [← words_scalar _ _ ix0, main_logits H]
  simp only [refLogits_apply]
  rw [final_nums m d (.of main_arg0) (by decide +kernel), final_nums m d (.of main_arg3) (by decide +kernel),
    final_nums m d (.of main_arg4) (by decide +kernel), final_nums m d (.of main_arg5) (by decide +kernel),
    final_nums m d (.of main_arg6) (by decide +kernel)]
  refine congrArg (decide1 · _) ?_
  exact congrFun (final_arg m d main_arg1 (by decide +kernel)) ix0

end Cert.Stop

end

end
-- ==== Proof.Algebraic.lean ====
/-
  The value claim: from the same arguments the kernel and the reference leave the same decisions.
-/
module

public import proofs.«01_k».proof.Defs
public import proofs.«01_k».proof.Proof.KernelArray
public import proofs.«01_k».proof.Proof.RefDecision

@[expose] public section

set_option maxRecDepth 16384

noncomputable section

namespace Cert.Stop

open Idealize.ShloMosaic Idealize.ShloMosaic.StableHlo Idealize.SL.Sem

attribute [local instance] Cert.KernelIdeal.Gen.facts Cert.ReferenceIdeal.Gen.facts

/-- The kernel with exact arithmetic ends with the reference's result. -/
theorem algebraic : Cert.algebraic_KernelIdeal_ReferenceIdeal := by
  intro m ρ m' ρ' _ hagree
  refine ⟨_, Cert.KernelIdeal.Value.run (F := Ideal) m ρ, ?_⟩
  refine (θ_run _ _ _).mono (fun r h c => ?_) (ref_run m' ρ')
  refine And.intro ((h c Cert.ReferenceIdeal.main_v54).trans ?_) ?_
  · obtain ⟨h0, h1, -, h3, h4, h5, h6, -⟩ := hagree c
    refine funext fun y => ?_
    obtain ⟨n, hn⟩ : ∃ n : Fin 16384, y = ix2 n (0 : Fin 1) :=
      ⟨y 0, (eq_ix2 y).trans (congrArg (ix2 (y 0)) (Subsingleton.elim (α := Fin 1) _ _))⟩
    rw [hn]
    refine (ref_value m' c n).trans (Eq.trans ?_ (result_value m c n).symm)
    rw [h0, h1, h3, h4, h5, h6]
    rfl
  · refine ⟨?_, ?_, ?_, ?_, ?_, ?_, ?_, ?_, ?_, ?_, ?_, ?_, ?_, ?_, ?_⟩ <;>
      exact (h c _).trans (final_arg m' c _ (by decide +kernel))

end Cert.Stop

end

end
-- ==== Proof.lean ====
/-
  The claims, assembled: the three programs leave their arguments, the two named constants are the rationals, and the
  kernel with exact arithmetic ends with the reference's result.
-/
module

public import proofs.«01_k».proof.Defs
public import proofs.«01_k».proof.Proof.Frames
public import proofs.«01_k».proof.Proof.Algebraic
public import proofs.«01_k».proof.Proof.Gen.KernelIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Every claim of the test file holds. -/
theorem claim : Cert.Claim := ⟨Cert.Kernel.Gen.facts, Cert.KernelIdeal.Gen.facts, Cert.ReferenceIdeal.Gen.facts,
  Cert.Stop.frame_kernel, Cert.Stop.frame_ideal, Cert.Stop.frame_reference, Cert.Stop.named, Cert.Stop.algebraic⟩

end Cert.Proof

end
